-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_graded [hPre_finite_and_graded : Cert.Pre_finite_and_graded.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_graded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_graded [hPre_finite_and_graded : Cert.Pre_finite_and_graded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_graded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_and_graded [hKernelIdeal : Cert.KernelIdeal.Facts] [hPre_finite_and_graded : Cert.Pre_finite_and_graded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_graded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_and_graded [hReferenceIdeal : Cert.ReferenceIdeal.Facts] [hPre_finite_and_graded : Cert.Pre_finite_and_graded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_graded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite_and_graded [hKernelIdeal : Cert.KernelIdeal.Facts] [hReferenceIdeal : Cert.ReferenceIdeal.Facts] [hPre_finite_and_graded : Cert.Pre_finite_and_graded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_graded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_and_graded : Cert.Pre_finite_and_graded.Facts),
    quiescent_Kernel (hKernel := hKernel)
    ∧ quiescent_KernelIdeal (hKernelIdeal := hKernelIdeal)
    ∧ quiescent_KernelIdeal_pre_finite_and_graded (hKernelIdeal := hKernelIdeal) (hPre_finite_and_graded := hPre_finite_and_graded)
    ∧ quiescent_ReferenceIdeal (hReferenceIdeal := hReferenceIdeal)
    ∧ quiescent_ReferenceIdeal_pre_finite_and_graded (hReferenceIdeal := hReferenceIdeal) (hPre_finite_and_graded := hPre_finite_and_graded)
    ∧ preserves_Kernel_KernelIdeal
    ∧ algebraic_KernelIdeal_ReferenceIdeal_pre_finite_and_graded (hKernelIdeal := hKernelIdeal) (hReferenceIdeal := hReferenceIdeal) (hPre_finite_and_graded := hPre_finite_and_graded)
-- ==== Pre_finite_and_graded.lean ====
abbrev S512x32x128 : Shape := ⟨3, ![512, 32, 128]⟩
abbrev S256x64 : Shape := ⟨2, ![256, 64]⟩
abbrev S64 : Shape := ⟨1, ![64]⟩
abbrev S64x64 : Shape := ⟨2, ![64, 64]⟩
abbrev S192x64 : Shape := ⟨2, ![192, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S512x32x128 : S_.BroadcastsInDim S512x32x128 (![] : Fin 0 → Fin S512x32x128.rank)
  reducesTo_S512x32x128_S_d0_1_2 : S512x32x128.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_

variable [Facts]

def fn_part2 {F : FTy → Type} [FloatOps F] (main_arg5 : FVec F S64 .f32) (main_arg6 : FVec F S64 .f32) (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_cst_14 : FVec F S_ .f32 := constant S_ .f32 0x00000000#32
  let main_v39 : FVec F S64 .f32 := broadcastInDim S64 ![] bcast_S_S64 main_cst_14
  let main_v40 : IVec S64 1 := cmpf .une main_arg5 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v38 main_v41
  let main_cst_16 : FVec F S_ .f32 := constant S_ .f32 0x00000000#32
  let main_v43 : FVec F S64 .f32 := broadcastInDim S64 ![] bcast_S_S64 main_cst_16
  let main_v44 : IVec S64 1 := cmpf .oeq main_arg6 main_v43
  let main_c_17 : IVec S_ 1 := constantI S_ 1 1#1
  let main_v45 : IVec S_ 1 := (fun x v => Host.reduce IntOp.andi x v reducesTo_S64_S_d0 h_S_) main_v44 main_c_17
  let main_v46 : IVec S_ 1 := andi main_v42 main_v45
  main_v46

def fn_part1 {F : FTy → Type} [FloatOps F] (main_arg5 : FVec F S64 .f32) (main_arg6 : FVec F S64 .f32) (main_arg7 : FVec F S64x64 .f32) (main_arg8 : FVec F S64 .f32) (main_arg9 : FVec F S192x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg9
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg5 main_arg6 main_arg10 main_v33

def fn {F : FTy → Type} [FloatOps F] (main_arg0 : FVec F S512x32x128 .f32) (main_arg1 : FVec F S256x64 .f32) (main_arg2 : FVec F S64 .f32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S192x64 .f32) (main_arg10 : FVec F S64 .f32) (main_arg11 : FVec F S64x64 .f32) (main_arg12 : FVec F S64 .f32) (main_arg13 : FVec F S64 .f32) (main_arg14 : FVec F S64 .f32) (main_arg15 : FVec F S64x128 .f32) (main_arg16 : FVec F S128 .f32) (main_arg17 : FVec F S128x16 .f32) (main_arg18 : FVec F S16 .f32) : IVec S_ 1 :=
  let main_v0 : FVec F S512x32x128 .f32 := Host.absf main_arg0
  let main_cst : FVec F S_ .f32 := constant S_ .f32 0x7F800000#32
  let main_v1 : FVec F S512x32x128 .f32 := broadcastInDim S512x32x128 ![] bcast_S_S512x32x128 main_cst
  let main_v2 : IVec S512x32x128 1 := cmpf .olt main_v0 main_v1
  let main_c : IVec S_ 1 := constantI S_ 1 1#1
  let main_v3 : IVec S_ 1 := (fun x v => Host.reduce IntOp.andi x v reducesTo_S512x32x128_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S512x32x128 : Shape := ⟨3, ![512, 32, 128]⟩
abbrev S256x64 : Shape := ⟨2, ![256, 64]⟩
abbrev S64 : Shape := ⟨1, ![64]⟩
abbrev S64x64 : Shape := ⟨2, ![64, 64]⟩
abbrev S192x64 : Shape := ⟨2, ![192, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S_ : Shape := ⟨0, ![]⟩
abbrev S1x64 : Shape := ⟨2, ![1, 64]⟩
abbrev S128x64 : Shape := ⟨2, ![128, 64]⟩
abbrev S128x128 : Shape := ⟨2, ![128, 128]⟩
abbrev S256x128 : Shape := ⟨2, ![256, 128]⟩
abbrev S64x1 : Shape := ⟨2, ![64, 1]⟩
abbrev S512x16x256 : Shape := ⟨3, ![512, 16, 256]⟩
abbrev S512x16 : Shape := ⟨2, ![512, 16]⟩
abbrev S128x32x128 : Shape := ⟨3, ![128, 32, 128]⟩
abbrev S128x16x256 : Shape := ⟨3, ![128, 16, 256]⟩
abbrev S4096x128 : Shape := ⟨2, ![4096, 128]⟩
abbrev S2048x256 : Shape := ⟨2, ![2048, 256]⟩
abbrev S1x128 : Shape := ⟨2, ![1, 128]⟩
abbrev S2048x128 : Shape := ⟨2, ![2048, 128]⟩
abbrev S128x1x32x128 : Shape := ⟨4, ![128, 1, 32, 128]⟩
abbrev S128x16x1x128 : Shape := ⟨4, ![128, 16, 1, 128]⟩
abbrev S128x16x32x128 : Shape := ⟨4, ![128, 16, 32, 128]⟩
abbrev S65536x128 : Shape := ⟨2, ![65536, 128]⟩
abbrev S4096x64 : Shape := ⟨2, ![4096, 64]⟩
abbrev S1x16 : Shape := ⟨2, ![1, 16]⟩

abbrev nBuf : Space → Nat
  | .hbm => 78
  | .vmem => 25
  | .smem => 0
  | _ => 0

abbrev bufTy : (tb : Table) → Fin (tcTables nBuf tb) → BufTy
  | .hbm, ⟨0, _⟩ => ⟨S512x32x128, .f32⟩
  | .hbm, ⟨1, _⟩ => ⟨S256x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S128x16, .f32⟩
  | .hbm, ⟨18, _⟩ => ⟨S16, .f32⟩
  | .hbm, ⟨19, _⟩ => ⟨S64x64, .i32⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S1x64, .f32⟩
  | .hbm, ⟨31, _⟩ => ⟨S64x64, .f32⟩
  | .hbm, ⟨32, _⟩ => ⟨S64x64, .f32⟩
  | .hbm, ⟨33, _⟩ => ⟨S64, .f32⟩
  | .hbm, ⟨34, _⟩ => ⟨S64, .f32⟩
  | .hbm, ⟨35, _⟩ => ⟨S64x64, .f32⟩
  | .hbm, ⟨36, _⟩ => ⟨S64, .f32⟩
  | .hbm, ⟨37, _⟩ => ⟨S_, .f32⟩
  | .hbm, ⟨38, _⟩ => ⟨S64x64, .f32⟩
  | .hbm, ⟨39, _⟩ => ⟨S_, .f32⟩
  | .hbm, ⟨40, _⟩ => ⟨S64x64, .f32⟩
  | .hbm, ⟨41, _⟩ => ⟨S_, .f32⟩
  | .hbm, ⟨42, _⟩ => ⟨S128x64, .f32⟩
  | .hbm, ⟨43, _⟩ => ⟨S128x64, .f32⟩
  | .hbm, ⟨44, _⟩ => ⟨S128x64, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S256x128, .f32⟩
  | .hbm, ⟨50, _⟩ => ⟨S128, .f32⟩
  | .hbm, ⟨51, _⟩ => ⟨S64x128, .f32⟩
  | .hbm, ⟨52, _⟩ => ⟨S64x128, .f32⟩
  | .hbm, ⟨53, _⟩ => ⟨S128x128, .f32⟩
  | .hbm, ⟨54, _⟩ => ⟨S128, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64x1, .f32⟩
  | .hbm, ⟨63, _⟩ => ⟨S64x64, .f32⟩
  | .hbm, ⟨64, _⟩ => ⟨S64x128, .f32⟩
  | .hbm, ⟨65, _⟩ => ⟨S64x128, .f32⟩
  | .hbm, ⟨66, _⟩ => ⟨S128x128, .f32⟩
  | .hbm, ⟨67, _⟩ => ⟨S128x64, .f32⟩
  | .hbm, ⟨68, _⟩ => ⟨S128x64, .f32⟩
  | .hbm, ⟨69, _⟩ => ⟨S64x64, .f32⟩
  | .hbm, ⟨70, _⟩ => ⟨S128x64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S512x16x256, .f32⟩
  | .hbm, ⟨77, _⟩ => ⟨S512x16, .f32⟩
  | .local _ .vmem, ⟨0, _⟩ => ⟨S128x32x128, .f32⟩
  | .local _ .vmem, ⟨1, _⟩ => ⟨S128x32x128, .f32⟩
  | .local _ .vmem, ⟨2, _⟩ => ⟨S128x16x256, .f32⟩
  | .local _ .vmem, ⟨3, _⟩ => ⟨S128x16x256, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S256x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128x64, .f32⟩
  | .local _ .vmem, ⟨12, _⟩ => ⟨S128x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S64, .f32⟩
  | .local _ .vmem, ⟨19, _⟩ => ⟨S64x128, .f32⟩
  | .local _ .vmem, ⟨20, _⟩ => ⟨S128, .f32⟩
  | .local _ .vmem, ⟨21, _⟩ => ⟨S128x16, .f32⟩
  | .local _ .vmem, ⟨22, _⟩ => ⟨S16, .f32⟩
  | .local _ .vmem, ⟨23, _⟩ => ⟨S128x16, .f32⟩
  | .local _ .vmem, ⟨24, _⟩ => ⟨S128x16, .f32⟩
  | _, _ => ⟨S512x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call0_v0 : Ref sig .tc := ⟨.hbm, 47, rfl⟩
abbrev main_call0_v1 : Ref sig .tc := ⟨.hbm, 48, rfl⟩
abbrev main_v23 : Ref sig .tc := ⟨.hbm, 49, rfl⟩
abbrev main_v24 : Ref sig .tc := ⟨.hbm, 50, rfl⟩
abbrev main_call1_v0 : Ref sig .tc := ⟨.hbm, 51, rfl⟩
abbrev main_call1_v1 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call2_v0 : Ref sig .tc := ⟨.hbm, 64, rfl⟩
abbrev main_call2_v1 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x16 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S512x32x128 : Shape := ⟨3, ![512, 32, 128]⟩
abbrev S256x64 : Shape := ⟨2, ![256, 64]⟩
abbrev S64 : Shape := ⟨1, ![64]⟩
abbrev S64x64 : Shape := ⟨2, ![64, 64]⟩
abbrev S192x64 : Shape := ⟨2, ![192, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S16384x128 : Shape := ⟨2, ![16384, 128]⟩
abbrev S507904 : Shape := ⟨1, ![507904]⟩
abbrev S_ : Shape := ⟨0, ![]⟩
abbrev S507904x1 : Shape := ⟨2, ![507904, 1]⟩
abbrev S507904x128 : Shape := ⟨2, ![507904, 128]⟩
abbrev S507904x256 : Shape := ⟨2, ![507904, 256]⟩
abbrev S507904x64 : Shape := ⟨2, ![507904, 64]⟩
abbrev S1x64 : Shape := ⟨2, ![1, 64]⟩
abbrev S16384x64 : Shape := ⟨2, ![16384, 64]⟩
abbrev S16384x192 : Shape := ⟨2, ![16384, 192]⟩
abbrev S16384 : Shape := ⟨1, ![16384]⟩
abbrev S16384x1 : Shape := ⟨2, ![16384, 1]⟩
abbrev S1x128 : Shape := ⟨2, ![1, 128]⟩
abbrev S512x128 : Shape := ⟨2, ![512, 128]⟩
abbrev S512x16 : Shape := ⟨2, ![512, 16]⟩
abbrev S1x16 : Shape := ⟨2, ![1, 16]⟩

abbrev nBuf : Space → Nat
  | .hbm => 221
  | .vmem => 0
  | .smem => 0
  | _ => 0

abbrev hbmTy0_0 (i : Nat) : BufTy := match i % 128 with
  | 0 => ⟨S512x32x128, .f32⟩
  | 1 => ⟨S256x64, .f32⟩
  | 2 => ⟨S64, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S192x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x128, .f32⟩
  | 16 => ⟨S128, .f32⟩
  | 17 => ⟨S128x16, .f32⟩
  | 18 => ⟨S16, .f32⟩
  | 19 => ⟨S16384x128, .f32⟩
  | 20 => ⟨S507904, .i32⟩
  | 21 => ⟨S_, .i32⟩
  | 22 => ⟨S_, .i32⟩
  | 23 => ⟨S507904, .i32⟩
  | 24 => ⟨S507904, .i32⟩
  | 25 => ⟨S507904, .i32⟩
  | 26 => ⟨S_, .i32⟩
  | 27 => ⟨S507904, .i32⟩
  | 28 => ⟨S507904, .i1⟩
  | 29 => ⟨S507904, .i32⟩
  | 30 => ⟨S507904, .i32⟩
  | 31 => ⟨S_, .i32⟩
  | 32 => ⟨S507904, .i32⟩
  | 33 => ⟨S507904, .i1⟩
  | 34 => ⟨S507904, .i1⟩
  | 35 => ⟨S_, .i32⟩
  | 36 => ⟨S507904, .i32⟩
  | 37 => ⟨S507904, .i32⟩
  | 38 => ⟨S507904, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S507904, .i32⟩
  | 46 => ⟨S507904, .i32⟩
  | 47 => ⟨S_, .i32⟩
  | 48 => ⟨S507904, .i32⟩
  | 49 => ⟨S507904, .i1⟩
  | 50 => ⟨S_, .i32⟩
  | 51 => ⟨S507904, .i32⟩
  | 52 => ⟨S507904, .i1⟩
  | 53 => ⟨S_, .i32⟩
  | 54 => ⟨S_, .i1⟩
  | 55 => ⟨S507904, .i1⟩
  | 56 => ⟨S507904, .i1⟩
  | 57 => ⟨S507904, .i1⟩
  | 58 => ⟨S507904, .i32⟩
  | 59 => ⟨S507904, .i32⟩
  | 60 => ⟨S507904, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S507904, .i32⟩
  | 68 => ⟨S507904, .i32⟩
  | 69 => ⟨S_, .i32⟩
  | 70 => ⟨S507904, .i32⟩
  | 71 => ⟨S507904, .i1⟩
  | 72 => ⟨S_, .i32⟩
  | 73 => ⟨S507904, .i32⟩
  | 74 => ⟨S507904, .i1⟩
  | 75 => ⟨S_, .i32⟩
  | 76 => ⟨S_, .i1⟩
  | 77 => ⟨S507904, .i1⟩
  | 78 => ⟨S507904, .i1⟩
  | 79 => ⟨S507904, .i1⟩
  | 80 => ⟨S507904, .i32⟩
  | 81 => ⟨S507904, .i32⟩
  | 82 => ⟨S507904, .i32⟩
  | 83 => ⟨S507904, .i32⟩
  | 84 => ⟨S507904, .i32⟩
  | 85 => ⟨S507904, .i1⟩
  | 86 => ⟨S_, .i32⟩
  | 87 => ⟨S_, .i32⟩
  | 88 => ⟨S507904, .i32⟩
  | 89 => ⟨S507904, .i32⟩
  | 90 => ⟨S507904, .i32⟩
  | 91 => ⟨S507904, .i32⟩
  | 92 => ⟨S507904, .i32⟩
  | 93 => ⟨S_, .i32⟩
  | 94 => ⟨S507904, .i32⟩
  | 95 => ⟨S507904, .i1⟩
  | 96 => ⟨S_, .i32⟩
  | 97 => ⟨S507904, .i32⟩
  | 98 => ⟨S507904, .i32⟩
  | 99 => ⟨S507904, .i32⟩
  | 100 => ⟨S507904x1, .i32⟩
  | 101 => ⟨S507904x128, .f32⟩
  | 102 => ⟨S_, .i32⟩
  | 103 => ⟨S507904, .i32⟩
  | 104 => ⟨S507904, .i1⟩
  | 105 => ⟨S_, .i32⟩
  | 106 => ⟨S507904, .i32⟩
  | 107 => ⟨S507904, .i32⟩
  | 108 => ⟨S507904, .i32⟩
  | 109 => ⟨S507904x1, .i32⟩
  | 110 => ⟨S507904x128, .f32⟩
  | 111 => ⟨S507904x256, .f32⟩
  | 112 => ⟨S507904x64, .f32⟩
  | 113 => ⟨S1x64, .f32⟩
  | 114 => ⟨S507904x64, .f32⟩
  | 115 => ⟨S507904x64, .f32⟩
  | 116 => ⟨S_, .f32⟩
  | 117 => ⟨S507904x64, .f32⟩
  | 118 => ⟨S507904x64, .f32⟩
  | 119 => ⟨S507904x64, .f32⟩
  | 120 => ⟨S1x64, .f32⟩
  | 121 => ⟨S507904x64, .f32⟩
  | 122 => ⟨S507904x64, .f32⟩
  | 123 => ⟨S_, .f32⟩
  | 124 => ⟨S507904, .f32⟩
  | 125 => ⟨S507904x1, .f32⟩
  | 126 => ⟨S_, .f32⟩
  | 127 => ⟨S507904x1, .f32⟩
  | _ => ⟨S512x32x128, .f32⟩

abbrev hbmTy0_1 (i : Nat) : BufTy := match i % 128 with
  | 0 => ⟨S507904x1, .f32⟩
  | 1 => ⟨S507904x64, .f32⟩
  | 2 => ⟨S507904x64, .f32⟩
  | 3 => ⟨S507904x64, .f32⟩
  | 4 => ⟨S_, .f32⟩
  | 5 => ⟨S507904, .f32⟩
  | 6 => ⟨S507904x1, .f32⟩
  | 7 => ⟨S_, .f32⟩
  | 8 => ⟨S507904x1, .f32⟩
  | 9 => ⟨S507904x1, .f32⟩
  | 10 => ⟨S507904x64, .f32⟩
  | 11 => ⟨S507904x64, .f32⟩
  | 12 => ⟨S_, .f32⟩
  | 13 => ⟨S507904x1, .f32⟩
  | 14 => ⟨S507904x1, .f32⟩
  | 15 => ⟨S507904x1, .f32⟩
  | 16 => ⟨S507904x64, .f32⟩
  | 17 => ⟨S507904x64, .f32⟩
  | 18 => ⟨S1x64, .f32⟩
  | 19 => ⟨S507904x64, .f32⟩
  | 20 => ⟨S507904x64, .f32⟩
  | 21 => ⟨S1x64, .f32⟩
  | 22 => ⟨S507904x64, .f32⟩
  | 23 => ⟨S507904x64, .f32⟩
  | 24 => ⟨S_, .f32⟩
  | 25 => ⟨S507904x64, .f32⟩
  | 26 => ⟨S507904x64, .f32⟩
  | 27 => ⟨S507904x64, .f32⟩
  | 28 => ⟨S1x64, .f32⟩
  | 29 => ⟨S507904x64, .f32⟩
  | 30 => ⟨S507904x64, .f32⟩
  | 31 => ⟨S_, .f32⟩
  | 32 => ⟨S16384x64, .f32⟩
  | 33 => ⟨S507904x1, .i32⟩
  | 34 => ⟨S16384x64, .f32⟩
  | 35 => ⟨S16384x192, .f32⟩
  | 36 => ⟨S16384x64, .f32⟩
  | 37 => ⟨S1x64, .f32⟩
  | 38 => ⟨S16384x64, .f32⟩
  | 39 => ⟨S16384x64, .f32⟩
  | 40 => ⟨S_, .f32⟩
  | 41 => ⟨S16384x64, .f32⟩
  | 42 => ⟨S16384x64, .f32⟩
  | 43 => ⟨S16384x64, .f32⟩
  | 44 => ⟨S1x64, .f32⟩
  | 45 => ⟨S16384x64, .f32⟩
  | 46 => ⟨S16384x64, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S16384x64, .f32⟩
  | 54 => ⟨S16384x64, .f32⟩
  | 55 => ⟨S16384x64, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x64, .f32⟩
  | 63 => ⟨S16384x64, .f32⟩
  | 64 => ⟨S_, .f32⟩
  | 65 => ⟨S16384x1, .f32⟩
  | 66 => ⟨S16384x1, .f32⟩
  | 67 => ⟨S16384x1, .f32⟩
  | 68 => ⟨S16384x64, .f32⟩
  | 69 => ⟨S16384x64, .f32⟩
  | 70 => ⟨S1x64, .f32⟩
  | 71 => ⟨S16384x64, .f32⟩
  | 72 => ⟨S16384x64, .f32⟩
  | 73 => ⟨S1x64, .f32⟩
  | 74 => ⟨S16384x64, .f32⟩
  | 75 => ⟨S16384x64, .f32⟩
  | 76 => ⟨S_, .f32⟩
  | 77 => ⟨S16384x64, .f32⟩
  | 78 => ⟨S16384x64, .f32⟩
  | 79 => ⟨S16384x128, .f32⟩
  | 80 => ⟨S1x128, .f32⟩
  | 81 => ⟨S16384x128, .f32⟩
  | 82 => ⟨S16384x128, .f32⟩
  | 83 => ⟨S512x32x128, .f32⟩
  | 84 => ⟨S_, .f32⟩
  | 85 => ⟨S512x32x128, .f32⟩
  | 86 => ⟨S512x32x128, .f32⟩
  | 87 => ⟨S_, .f32⟩
  | 88 => ⟨S512x128, .f32⟩
  | 89 => ⟨S512x16, .f32⟩
  | 90 => ⟨S1x16, .f32⟩
  | 91 => ⟨S512x16, .f32⟩
  | 92 => ⟨S512x16, .f32⟩
  | _ => ⟨S512x32x128, .f32⟩

abbrev hbmTy (i : Nat) : BufTy := match i / 128 with
  | 0 => hbmTy0_0 i
  | 1 => hbmTy0_1 i
  | _ => ⟨S512x32x128, .f32⟩

abbrev bufTy : (tb : Table) → Fin (tcTables nBuf tb) → BufTy
  | .hbm, ⟨i, _⟩ => hbmTy i
  | _, _ => ⟨S512x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v2 : Ref sig .tc := ⟨.hbm, 38, rfl⟩
abbrev main_c_0 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v3 : Ref sig .tc := ⟨.hbm, 60, rfl⟩
abbrev main_c_1 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v4 : Ref sig .tc := ⟨.hbm, 82, rfl⟩
abbrev main_v5 : Ref sig .tc := ⟨.hbm, 83, rfl⟩
abbrev main_v6 : Ref sig .tc := ⟨.hbm, 84, rfl⟩
abbrev main_v7 : Ref sig .tc := ⟨.hbm, 85, rfl⟩
abbrev main_c_2 : Ref sig .tc := ⟨.hbm, 86, rfl⟩
abbrev main_c_3 : Ref sig .tc := ⟨.hbm, 87, rfl⟩
abbrev main_call3_v0 : Ref sig .tc := ⟨.hbm, 88, rfl⟩
abbrev main_call3_v1 : Ref sig .tc := ⟨.hbm, 89, rfl⟩
abbrev main_v8 : Ref sig .tc := ⟨.hbm, 90, rfl⟩
abbrev main_v9 : Ref sig .tc := ⟨.hbm, 91, rfl⟩
abbrev main_v10 : Ref sig .tc := ⟨.hbm, 92, rfl⟩
abbrev main_c_4 : Ref sig .tc := ⟨.hbm, 93, rfl⟩
abbrev main_v11 : Ref sig .tc := ⟨.hbm, 94, rfl⟩
abbrev main_v12 : Ref sig .tc := ⟨.hbm, 95, rfl⟩
abbrev main_c_5 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_c_6 : Ref sig .tc := ⟨.hbm, 102, rfl⟩
abbrev main_v18 : Ref sig .tc := ⟨.hbm, 103, rfl⟩
abbrev main_v19 : Ref sig .tc := ⟨.hbm, 104, rfl⟩
abbrev main_c_7 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_call4_cst : Ref sig .tc := ⟨.hbm, 116, rfl⟩
abbrev main_call4_v0 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_v33 : Ref sig .tc := ⟨.hbm, 121, rfl⟩
abbrev main_v34 : Ref sig .tc := ⟨.hbm, 122, rfl⟩
abbrev main_cst : Ref sig .tc := ⟨.hbm, 123, rfl⟩
abbrev main_v35 : Ref sig .tc := ⟨.hbm, 124, rfl⟩
abbrev main_v36 : Ref sig .tc := ⟨.hbm, 125, rfl⟩
abbrev main_cst_8 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_cst_9 : Ref sig .tc := ⟨.hbm, 132, rfl⟩
abbrev main_v42 : Ref sig .tc := ⟨.hbm, 133, rfl⟩
abbrev main_v43 : Ref sig .tc := ⟨.hbm, 134, rfl⟩
abbrev main_cst_10 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_cst_11 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_call5_cst : Ref sig .tc := ⟨.hbm, 152, rfl⟩
abbrev main_call5_v0 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_cst_12 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_call6_cst : Ref sig .tc := ⟨.hbm, 168, rfl⟩
abbrev main_call6_v0 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_cst_13 : Ref sig .tc := ⟨.hbm, 175, rfl⟩
abbrev main_v77 : Ref sig .tc := ⟨.hbm, 176, rfl⟩
abbrev main_v78 : Ref sig .tc := ⟨.hbm, 177, rfl⟩
abbrev main_cst_14 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_cst_15 : Ref sig .tc := ⟨.hbm, 184, rfl⟩
abbrev main_v84 : Ref sig .tc := ⟨.hbm, 185, rfl⟩
abbrev main_v85 : Ref sig .tc := ⟨.hbm, 186, rfl⟩
abbrev main_cst_16 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_cst_17 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_call7_cst : Ref sig .tc := ⟨.hbm, 204, rfl⟩
abbrev main_call7_v0 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_call8_cst : Ref sig .tc := ⟨.hbm, 212, rfl⟩
abbrev main_call8_v0 : Ref sig .tc := ⟨.hbm, 213, rfl⟩
abbrev main_v107 : Ref sig .tc := ⟨.hbm, 214, rfl⟩
abbrev main_cst_18 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩

abbrev nD : Nat := 1
abbrev τ : Topo := Topo.v7x

variable {F : FTy → Type} [FloatOps F]
-- ==== Proof.Payload.lean ====
/- The kernel body's values read at an index, over the blocks it loads. -/
module

public import proofs.«01_k».proof.Proof.Gen.KernelIdeal.Skeleton
public import proofs.«01_k».proof.Proof.Gen.KernelIdeal
public import Idealize.ShloMosaic.Lib.Pointwise

@[expose] public section

set_option maxRecDepth 16384

noncomputable section

namespace Cert.Payload

open Cert.KernelIdeal Cert.KernelIdeal.Gen Idealize.ShloMosaic

/-- The row of object `i` of graph `b` in a block. -/
def r4 (b : Fin 128) (i : Fin 32) : Fin 4096 := ⟨b.val * 32 + i.val, by have := b.isLt; have := i.isLt; omega⟩

/-- The row of the pair of edges from object `i` of graph `b` to the objects `2 q` and `2 q + 1`. -/
def r6 (b : Fin 128) (q : Fin 16) (i : Fin 32) : Fin 65536 :=
  ⟨b.val * 512 + q.val * 32 + i.val, by have := b.isLt; have := i.isLt; have := q.isLt; omega⟩

variable (x0 : FVec Ideal S128x32x128 .f32) (x1 : FVec Ideal S128x16x256 .f32) (x2 : FVec Ideal S128x128 .f32)
  (x3 : FVec Ideal S128 .f32) (x4 : FVec Ideal S128x128 .f32) (x5 : FVec Ideal S256x128 .f32) (x6 : FVec Ideal S128x128 .f32)
  (x7 : FVec Ideal S128 .f32) (x8 : FVec Ideal S128x128 .f32) (x9 : FVec Ideal S128x64 .f32) (x10 : FVec Ideal S128x64 .f32)

/-- The sender's part of the first edge layer, with the bias, at an index. -/
theorem pay6_at (b : Fin 128) (i : Fin 32) (l : Fin 128) :
    k0_pay6 x0 x2 x3 (ix2 (r4 b i) l) = (∑ d : Fin 128, x0 (ix3 b i d) * x2 (ix2 d l)) + x3 (ix1 l) := by
  pointwise [k0_pay6, k0_pay2, r4]

/-- The centred and scaled second edge layer of a pair of edges at an index. -/
theorem pay7_at (b : Fin 128) (q : Fin 16) (i : Fin 32) (l : Fin 128) :
    k0_pay7 x0 x1 x6 x7 x2 x3 x5 (ix2 (r6 b q i) l)
      = (∑ m : Fin 128, max ((∑ d : Fin 128, x0 (ix3 b i d) * x2 (ix2 d m)) + x3 (ix1 m)
          + ∑ d : Fin 256, x1 (ix3 b q d) * x5 (ix2 d m)) 0 * x6 (ix2 m l)) + x7 (ix1 l) := by
  pointwise [k0_pay7, k0_pay6, k0_pay5, k0_pay4, k0_pay2, r6]

/-- The variance of that layer at an index. -/
theorem pay8_at (b : Fin 128) (q : Fin 16) (i : Fin 32) (l : Fin 128) :
    k0_pay8 x0 x1 x8 x6 x7 x2 x3 x5 (ix2 (r6 b q i) l)
      = ∑ m : Fin 128, k0_pay7 x0 x1 x6 x7 x2 x3 x5 (ix2 (r6 b q i) m) * k0_pay7 x0 x1 x6 x7 x2 x3 x5 (ix2 (r6 b q i) m)
          * x8 (ix2 m l) := by
  pointwise [k0_pay8, k0_pay3]

/-- The edge that an object would send itself, before it is centred. -/
def selfH (b : Fin 128) (i : Fin 32) (l : Fin 128) : EReal :=
  max ((∑ d : Fin 128, x0 (ix3 b i d) * x2 (ix2 d l)) + x3 (ix1 l) + ∑ d : Fin 128, x0 (ix3 b i d) * x4 (ix2 d l)) 0

/-- The edge that an object would send itself, centred and scaled. -/
def selfC (b : Fin 128) (i : Fin 32) (l : Fin 128) : EReal :=
  (∑ m : Fin 128, selfH x0 x2 x3 x4 b i m * x6 (ix2 m l)) + x7 (ix1 l)

/-- An object's first layer before its bias at an index: its slot's part, and the part of its edges summed, with the edge to itself taken off. -/
theorem pay10_at (v33 v35 : FVec Ideal S65536x128 .f32) (b : Fin 128) (i : Fin 32) (o : Fin 64) :
    k0_pay10 (k0_pay2 x0) (k0_pay3 x8) (k0_pay4 x6) (k0_pay5 x7) (k0_pay6 x0 x2 x3) v33 v35 k0_pay9 x4 x10 x9
        (ix2 (r4 b i) o)
      = (∑ d : Fin 128, x0 (ix3 b i d) * x10 (ix2 d o))
        + ∑ l : Fin 128, ((∑ q : Fin 16, max (v33 (ix2 (r6 b q i) l)) 0
              * Ideal.rsqrt (1 * (v35 (ix2 (r6 b q i) l) + Ideal.ofBits .f32 0x3727C5AC#32)))
            - max (selfC x0 x2 x3 x4 x6 x7 b i l) 0
              * Ideal.rsqrt (Ideal.ofBits .f32 0x40800000#32 * ((∑ m : Fin 128, selfC x0 x2 x3 x4 x6 x7 b i m
                  * selfC x0 x2 x3 x4 x6 x7 b i m * x8 (ix2 m l)) + Ideal.ofBits .f32 0x3727C5AC#32)))
          * x9 (ix2 l o) := by
  pointwise [k0_pay10, k0_pay9, k0_pay6, k0_pay5, k0_pay4, k0_pay3, k0_pay2, r4, r6, selfC, selfH]

/-- The pooled node features at an index, from the objects' first layers `u` and their centred second layers `z`. -/
theorem pay12_at (v74 : FVec Ideal S4096x64 .f32) (x11 : FVec Ideal S64 .f32) (x12 : FVec Ideal S64x64 .f32)
    (x13 : FVec Ideal S64 .f32) (x14 : FVec Ideal S64x64 .f32) (x15 x16 : FVec Ideal S64 .f32)
    (x17 : FVec Ideal S64x128 .f32) (x18 : FVec Ideal S128 .f32) (b : Fin 128) (d : Fin 128)
    (u : Fin 32 → Fin 64 → EReal) (hu : ∀ i o, max (v74 (ix2 (r4 b i) o) + x11 (ix1 o)) 0 = u i o)
    (z : Fin 32 → Fin 64 → EReal) (hz : ∀ i k, (∑ o : Fin 64, u i o * x12 (ix2 o k)) + x13 (ix1 k) = z i k) :
    k0_pay12 v74 (k0_pay11 x11) x12 x13 x14 x15 x16 x17 x18 (ix2 b d)
      = ∑ i : Fin 32, max ((∑ k : Fin 64, max (z i k
          * Ideal.rsqrt ((∑ l : Fin 64, z i l * z i l * x14 (ix2 l k)) + Ideal.ofBits .f32 0x3727C5AC#32)
          * x15 (ix1 k) + x16 (ix1 k)) 0 * x17 (ix2 k d)) + x18 (ix1 d)) 0 := by
  simp only [← hz, ← hu]
  pointwise [k0_pay12, k0_pay11, r4]

/-- The last linear layer at an index. -/
theorem pay1_at (v : FVec Ideal S128x128 .f32) (x19 : FVec Ideal S128x16 .f32) (x20 : FVec Ideal S16 .f32) (b : Fin 128)
    (o : Fin 16) : k0_pay1 v x19 x20 (ix2 b o) = (∑ d : Fin 128, v (ix2 b d) * x19 (ix2 d o)) + x20 (ix1 o) := by
  pointwise [k0_pay1]

end Cert.Payload

end
-- ==== Proof.Norm.lean ====
/- The two ways of centring and normalizing a row of sixty-four numbers, over the extended reals: the mean subtracted
   after the matrix product, and the mean folded into the matrix before it. The matrix and the added row are any extended
   reals; the row that multiplies the matrix is real. -/
module

public import Idealize.ShloMosaic.PureOps.Ideal
public import Idealize.ShloMosaic.PureOps.Ideal.Laws

@[expose] public section

noncomputable section

namespace Cert.Norm

open Idealize.ShloMosaic

/-- An infinite number. -/
def Inf (x : EReal) : Prop := x = ⊥ ∨ x = ⊤

/-- A real number is not infinite. -/
theorem not_inf_coe (r : ℝ) : ¬ Inf (r : EReal) := by
  rintro (h | h)
  · exact EReal.coe_ne_bot _ h
  · exact EReal.coe_ne_top _ h

/-- A number that is not infinite is a real number. -/
theorem coe_of_not_inf {x : EReal} (h : ¬ Inf x) : ∃ r : ℝ, x = (r : EReal) := by
  induction x with
  | bot => exact absurd (Or.inl rfl) h
  | top => exact absurd (Or.inr rfl) h
  | coe r => exact ⟨r, rfl⟩

/-- An infinite number plus anything is infinite. -/
theorem Inf.add_left {x : EReal} (h : Inf x) (y : EReal) : Inf (x + y) := by
  rcases h with rfl | rfl
  · exact Or.inl (EReal.bot_add _)
  · induction y with
    | bot => exact Or.inl (EReal.add_bot _)
    | top => exact Or.inr rfl
    | coe r => exact Or.inr (EReal.top_add_coe r)

/-- Anything plus an infinite number is infinite. -/
theorem Inf.add_right {y : EReal} (h : Inf y) (x : EReal) : Inf (x + y) := by
  rw [add_comm]; exact h.add_left x

/-- The negative of an infinite number is infinite. -/
theorem Inf.neg {x : EReal} (h : Inf x) : Inf (-x) := by
  rcases h with rfl | rfl
  · exact Or.inr EReal.neg_bot
  · exact Or.inl EReal.neg_top

/-- Anything minus an infinite number is infinite. -/
theorem Inf.sub_right {y : EReal} (h : Inf y) (x : EReal) : Inf (x - y) := by
  rw [sub_eq_add_neg]; exact h.neg.add_right x

/-- An infinite number times a nonzero real number is infinite. -/
theorem Inf.mul_coe {x : EReal} (h : Inf x) {r : ℝ} (hr : r ≠ 0) : Inf (x * (r : EReal)) := by
  rcases lt_or_gt_of_ne hr with hr | hr
  · rcases h with rfl | rfl
    · exact Or.inr (EReal.bot_mul_coe_of_neg hr)
    · exact Or.inl (EReal.top_mul_coe_of_neg hr)
  · rcases h with rfl | rfl
    · exact Or.inl (EReal.bot_mul_coe_of_pos hr)
    · exact Or.inr (EReal.top_mul_coe_of_pos hr)

/-- A nonzero real number times an infinite number is infinite. -/
theorem Inf.coe_mul {x : EReal} (h : Inf x) {r : ℝ} (hr : r ≠ 0) : Inf ((r : EReal) * x) := by
  rw [mul_comm]; exact h.mul_coe hr

/-- The square of an infinite number is the top element. -/
theorem Inf.sq {x : EReal} (h : Inf x) : x * x = ⊤ := by
  rcases h with rfl | rfl
  · exact EReal.bot_mul_bot
  · exact EReal.top_mul_top

/-- A sum with an infinite term is infinite. -/
theorem Inf.sum {ι : Type} {s : Finset ι} {f : ι → EReal} {i : ι} (hi : i ∈ s) (h : Inf (f i)) : Inf (∑ j ∈ s, f j) := by
  classical
  rw [← Finset.add_sum_erase s f hi]
  exact h.add_left _

/-- A sum of terms none of which is the bottom element is not the bottom element. -/
theorem sum_ne_bot {ι : Type} (s : Finset ι) (f : ι → EReal) (h : ∀ i, f i ≠ ⊥) : ∑ i ∈ s, f i ≠ ⊥ := by
  classical
  induction s using Finset.induction_on with
  | empty => simp
  | insert a s ha ih =>
    rw [Finset.sum_insert ha]
    intro e
    rcases EReal.add_eq_bot_iff.1 e with e | e
    · exact h a e
    · exact ih e

/-- A sum with a term at the top and none at the bottom is the top element. -/
theorem sum_top {ι : Type} {s : Finset ι} {f : ι → EReal} {i : ι} (hi : i ∈ s) (h : ∀ i, f i ≠ ⊥) (ht : f i = ⊤) :
    ∑ j ∈ s, f j = ⊤ :=
  (Inf.sum hi (Or.inr ht)).resolve_left (sum_ne_bot s f h)

/-- A sum of real numbers, taken before or after they are read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of real numbers, taken before or after they are read as extended reals. -/
theorem max_coe (a b : ℝ) : max (a : EReal) (b : EReal) = ((max a b : ℝ) : EReal) :=
  (EReal.coe_strictMono.monotone.map_max).symm

/-- The root of a nonnegative real number. -/
theorem sqrt_coe {a : ℝ} (ha : 0 ≤ a) : Ideal.sqrt (a : EReal) = ((Real.sqrt a : ℝ) : EReal) := by
  show (if a < 0 then (⊥ : EReal) else (Real.sqrt a : EReal)) = _
  rw [if_neg (not_lt.2 ha)]

/-- The reciprocal root of a positive real number. -/
theorem rsqrt_coe {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

/-- The quotient of a real number by a nonzero real number. -/
theorem div_coe_coe (x : ℝ) {y : ℝ} (hy : y ≠ 0) : Ideal.div (x : EReal) (y : EReal) = ((x / y : ℝ) : EReal) := by
  rw [Ideal.div_coe hy, ← EReal.coe_mul, mul_one_div]

/-- Anything divided by the top element is zero. -/
theorem div_top (x : EReal) : Ideal.div x ⊤ = 0 := by
  rw [Ideal.div, if_neg EReal.top_ne_zero, EReal.inv_top, mul_zero]

/-- The matrix whose product with a row subtracts the row's mean from it. -/
def cen (l k : Fin 64) : ℝ := (if l = k then 1 else 0) - 1 / 64

/-- No entry of the centring matrix is zero. -/
theorem cen_ne (l k : Fin 64) : cen l k ≠ 0 := by
  unfold cen; split <;> norm_num

/-- A row times the centring matrix is the row minus its mean. -/
theorem sum_cen (w : Fin 64 → ℝ) (k : Fin 64) : ∑ l, w l * cen l k = w k - (∑ l, w l) / 64 := by
  simp only [cen, mul_sub, mul_ite, mul_one, mul_zero, Finset.sum_sub_distrib, Finset.sum_ite_eq', Finset.mem_univ,
    if_true]
  rw [← Finset.sum_mul, mul_one_div]

/-- A row's product with a matrix, and a row added. -/
def lin (h : Fin 64 → ℝ) (W : Fin 64 → Fin 64 → EReal) (b : Fin 64 → EReal) (k : Fin 64) : EReal :=
  (∑ m, (h m : EReal) * W m k) + b k

/-- A matrix with the mean of each row subtracted and each column scaled. -/
def cmat (W : Fin 64 → Fin 64 → EReal) (γ : Fin 64 → ℝ) (m k : Fin 64) : EReal :=
  (∑ l, W m l * (cen l k : EReal)) * (γ k : EReal)

/-- A row with its mean subtracted and each place scaled. -/
def crow (b : Fin 64 → EReal) (γ : Fin 64 → ℝ) (k : Fin 64) : EReal := (∑ l, b l * (cen l k : EReal)) * (γ k : EReal)

/-- Either the product is real and the product with the centred matrix is the product centred and scaled, or the first
    is infinite somewhere and the second everywhere. -/
theorem lin_cases (h : Fin 64 → ℝ) (W : Fin 64 → Fin 64 → EReal) (b : Fin 64 → EReal) {γ : Fin 64 → ℝ}
    (hγ : ∀ k, γ k ≠ 0) :
    (∃ z : Fin 64 → ℝ, (∀ k, lin h W b k = (z k : EReal))
      ∧ ∀ k, lin h (cmat W γ) (crow b γ) k = (((z k - (∑ l, z l) / 64) * γ k : ℝ) : EReal))
    ∨ ((∃ k, Inf (lin h W b k)) ∧ ∀ k, Inf (lin h (cmat W γ) (crow b γ) k)) := by
  by_cases hW : ∀ m k, h m = 0 ∨ ¬ Inf (W m k)
  · by_cases hb : ∀ k, ¬ Inf (b k)
    · left
      choose β hβ using fun k => coe_of_not_inf (hb k)
      have hw : ∀ m k, ∃ w : ℝ, h m = 0 ∨ W m k = (w : EReal) := fun m k => by
        rcases hW m k with e | e
        · exact ⟨0, Or.inl e⟩
        · obtain ⟨w, e⟩ := coe_of_not_inf e
          exact ⟨w, Or.inr e⟩
      choose w hw using hw
      have h1 : ∀ m k, (h m : EReal) * W m k = ((h m * w m k : ℝ) : EReal) := fun m k => by
        rcases hw m k with e | e
        · rw [e]; simp
        · rw [e, EReal.coe_mul]
      have h2 : ∀ m k, (h m : EReal) * cmat W γ m k = ((h m * ((∑ l, w m l * cen l k) * γ k) : ℝ) : EReal) := fun m k => by
        by_cases e : h m = 0
        · rw [e]; simp
        · have hl : ∀ l, W m l = (w m l : EReal) := fun l => (hw m l).resolve_left e
          simp only [cmat, hl, EReal.coe_mul, coe_sum]
      have h3 : ∀ k, crow b γ k = (((∑ l, β l * cen l k) * γ k : ℝ) : EReal) := fun k => by
        simp only [crow, hβ, EReal.coe_mul, coe_sum]
      refine ⟨fun k => (∑ m, h m * w m k) + β k, fun k => ?_, fun k => ?_⟩
      · simp only [lin, h1, hβ, EReal.coe_add, coe_sum]
      · have e : (∑ m, h m * ((∑ l, w m l * cen l k) * γ k)) + (∑ l, β l * cen l k) * γ k
            = ((∑ m, h m * w m k) + β k - (∑ l, ((∑ m, h m * w m l) + β l)) / 64) * γ k := by
          rw [sum_cen β]
          have e1 : ∑ m, h m * ((∑ l, w m l * cen l k) * γ k) = (∑ l, (∑ m, h m * w m l) * cen l k) * γ k := by
            simp only [Finset.sum_mul, Finset.mul_sum]
            rw [Finset.sum_comm]
            exact Finset.sum_congr rfl fun l _ => Finset.sum_congr rfl fun m _ => by ring
          rw [e1, sum_cen, Finset.sum_add_distrib]
          ring
        rw [← e]
        simp only [lin, h2, h3, EReal.coe_add, coe_sum]
    · right
      push Not at hb
      obtain ⟨k, hk⟩ := hb
      refine ⟨⟨k, hk.add_right _⟩, fun j => Inf.add_right ?_ _⟩
      exact (Inf.sum (Finset.mem_univ k) (hk.mul_coe (cen_ne k j))).mul_coe (hγ j)
  · right
    push Not at hW
    obtain ⟨m, k, hm, hk⟩ := hW
    refine ⟨⟨k, Inf.add_left (Inf.sum (Finset.mem_univ m) (hk.coe_mul hm)) _⟩, fun j => Inf.add_left ?_ _⟩
    refine Inf.sum (Finset.mem_univ m) (Inf.coe_mul ?_ hm)
    exact (Inf.sum (Finset.mem_univ k) (hk.mul_coe (cen_ne k j))).mul_coe (hγ j)

/-- The mean of a row. -/
def mean (z : Fin 64 → EReal) : EReal := Ideal.div (∑ k, z k) ((64 : ℝ) : EReal)

/-- A row centred. -/
def dev (z : Fin 64 → EReal) (k : Fin 64) : EReal := z k - mean z

/-- A row centred and divided by its deviation. -/
def nrm (ε : EReal) (z : Fin 64 → EReal) (k : Fin 64) : EReal :=
  Ideal.div (dev z k) (Ideal.sqrt (mean (fun l => dev z l * dev z l) + ε))

/-- The variance of a row of real numbers. -/
def rvar (z : Fin 64 → ℝ) : ℝ := (∑ l, (z l - (∑ j, z j) / 64) * (z l - (∑ j, z j) / 64)) / 64

/-- A variance is not negative. -/
theorem rvar_nonneg (z : Fin 64 → ℝ) : 0 ≤ rvar z :=
  div_nonneg (Finset.sum_nonneg fun l _ => mul_self_nonneg _) (by norm_num)

/-- The mean of a row of real numbers. -/
theorem mean_coe (z : Fin 64 → ℝ) : mean (fun k => (z k : EReal)) = (((∑ k, z k) / 64 : ℝ) : EReal) := by
  rw [mean, ← coe_sum, div_coe_coe _ (by norm_num)]

/-- A row of real numbers normalized. -/
theorem nrm_coe {ε : ℝ} (hε : 0 < ε) (z : Fin 64 → ℝ) (k : Fin 64) :
    nrm (ε : EReal) (fun k => (z k : EReal)) k
      = (((z k - (∑ j, z j) / 64) / Real.sqrt (rvar z + ε) : ℝ) : EReal) := by
  have hp : 0 < rvar z + ε := add_pos_of_nonneg_of_pos (rvar_nonneg z) hε
  have hd : ∀ l, dev (fun k => (z k : EReal)) l = ((z l - (∑ j, z j) / 64 : ℝ) : EReal) := fun l => by
    rw [dev, mean_coe, EReal.coe_sub]
  have hm : mean (fun l => dev (fun k => (z k : EReal)) l * dev (fun k => (z k : EReal)) l) = (rvar z : EReal) := by
    simp only [hd, ← EReal.coe_mul]
    exact mean_coe _
  rw [nrm, hm, hd, ← EReal.coe_add, sqrt_coe hp.le, div_coe_coe _ (Real.sqrt_pos.2 hp).ne']

/-- A row with an infinite entry normalizes to zero. -/
theorem nrm_inf (ε : ℝ) {z : Fin 64 → EReal} {k : Fin 64} (hk : Inf (z k)) (j : Fin 64) : nrm (ε : EReal) z j = 0 := by
  have hm : Inf (mean z) := by
    rw [mean, Ideal.div_coe (by norm_num)]
    exact (Inf.sum (Finset.mem_univ k) hk).mul_coe (by norm_num)
  have hs : ∀ l, dev z l * dev z l = ⊤ := fun l => (hm.sub_right (z l)).sq
  have hv : mean (fun l => dev z l * dev z l) = ⊤ := by
    simp only [hs]
    rw [mean, sum_top (Finset.mem_univ k) (fun _ => top_ne_bot) rfl, Ideal.div_coe (by norm_num),
      EReal.top_mul_coe_of_pos (by norm_num)]
  rw [nrm, hv, EReal.top_add_coe]
  exact div_top _

/-- The kernel's variance of a centred and scaled row: the squares weighted by the reciprocals of the scales' squares. -/
def wvar (c : Fin 64 → EReal) (γ : Fin 64 → ℝ) : EReal :=
  ∑ l, c l * c l * Ideal.div 1 ((γ l * γ l * 64 : ℝ) : EReal)

/-- The kernel's variance of a centred and scaled row of real numbers is the row's variance. -/
theorem wvar_coe {γ : Fin 64 → ℝ} (hγ : ∀ k, γ k ≠ 0) (z : Fin 64 → ℝ) :
    wvar (fun k => (((z k - (∑ l, z l) / 64) * γ k : ℝ) : EReal)) γ = (rvar z : EReal) := by
  have h : ∀ l, γ l * γ l * 64 ≠ 0 := fun l => mul_ne_zero (mul_ne_zero (hγ l) (hγ l)) (by norm_num)
  have h1 : ∀ l, Ideal.div 1 ((γ l * γ l * 64 : ℝ) : EReal) = ((1 / (γ l * γ l * 64) : ℝ) : EReal) := fun l => by
    rw [← EReal.coe_one, div_coe_coe _ (h l)]
  simp only [wvar, h1, ← EReal.coe_mul, ← coe_sum]
  rw [rvar, Finset.sum_div Finset.univ fun l => (z l - (∑ j, z j) / 64) * (z l - (∑ j, z j) / 64)]
  refine congrArg _ (Finset.sum_congr rfl fun l _ => ?_)
  have := hγ l
  field_simp

/-- The kernel's variance of a row of infinite numbers is the top element. -/
theorem wvar_inf {γ : Fin 64 → ℝ} (hγ : ∀ k, γ k ≠ 0) {c : Fin 64 → EReal} (hc : ∀ k, Inf (c k)) : wvar c γ = ⊤ := by
  have h1 : ∀ l, c l * c l * Ideal.div 1 ((γ l * γ l * 64 : ℝ) : EReal) = ⊤ := fun l => by
    have hp : 0 < γ l * γ l * 64 := mul_pos (mul_self_pos.2 (hγ l)) (by norm_num)
    rw [(hc l).sq, Ideal.div_coe hp.ne', one_mul, EReal.top_mul_coe_of_pos (one_div_pos.2 hp)]
  simp only [wvar, h1]
  exact sum_top (Finset.mem_univ 0) (fun _ => top_ne_bot) rfl

/-- The reciprocal root of a variance taken `s * s` times. -/
theorem rsqrt_scaled {v ε s : ℝ} (hv : 0 ≤ v) (hε : 0 < ε) (hs : 0 < s) :
    Ideal.rsqrt (((s * s : ℝ) : EReal) * ((v : EReal) + (ε : EReal))) = (((s * Real.sqrt (v + ε))⁻¹ : ℝ) : EReal) := by
  have hp : 0 < v + ε := add_pos_of_nonneg_of_pos hv hε
  rw [← EReal.coe_add, ← EReal.coe_mul, rsqrt_coe (mul_pos (mul_pos hs hs) hp), Real.sqrt_mul (mul_pos hs hs).le,
    Real.sqrt_mul_self hs.le]

/-- THE EDGE STAGE. The normalized, scaled and clipped row, and the kernel's form of it, which clips the centred and
    scaled row and then divides, are one real number; with the variance taken `s * s` times the kernel's form is the
    `s`-th part of it. -/
theorem edge (ε : ℝ) (hε : 0 < ε) (h : Fin 64 → ℝ) (W : Fin 64 → Fin 64 → EReal) (b : Fin 64 → EReal) {γ : Fin 64 → ℝ}
    (hγ : ∀ k, γ k ≠ 0) (k : Fin 64) :
    ∃ y : ℝ, max (nrm (ε : EReal) (lin h W b) k * (γ k : EReal) + 0) 0 = (y : EReal)
      ∧ ∀ s : ℝ, 0 < s → max (lin h (cmat W γ) (crow b γ) k) 0
          * Ideal.rsqrt (((s * s : ℝ) : EReal) * (wvar (lin h (cmat W γ) (crow b γ)) γ + (ε : EReal))) = ((y / s : ℝ) : EReal) := by
  rcases lin_cases h W b hγ with ⟨z, hz, hc⟩ | ⟨⟨j, hj⟩, hc⟩
  · have hz' : lin h W b = fun k => (z k : EReal) := funext hz
    have hc' : lin h (cmat W γ) (crow b γ) = fun k => (((z k - (∑ l, z l) / 64) * γ k : ℝ) : EReal) := funext hc
    have hp : 0 < rvar z + ε := add_pos_of_nonneg_of_pos (rvar_nonneg z) hε
    have hq := Real.sqrt_pos.2 hp
    refine ⟨max ((z k - (∑ j, z j) / 64) / Real.sqrt (rvar z + ε) * γ k) 0, ?_, fun s hs => ?_⟩
    · rw [hz', nrm_coe hε, add_zero, ← EReal.coe_mul, ← EReal.coe_zero, max_coe]
    · rw [hc', wvar_coe hγ, rsqrt_scaled (rvar_nonneg z) hε hs, ← EReal.coe_zero, max_coe, ← EReal.coe_mul]
      refine congrArg _ ?_
      have hi : 0 ≤ (Real.sqrt (rvar z + ε))⁻¹ := inv_nonneg.2 hq.le
      rw [mul_inv, mul_left_comm, max_mul_of_nonneg _ _ hi, zero_mul, mul_comm, div_eq_mul_inv, div_eq_mul_inv]
      congr 2
      ring
  · refine ⟨0, ?_, fun s hs => ?_⟩
    · rw [nrm_inf ε hj, zero_mul, add_zero, EReal.coe_zero, max_self]
    · rw [wvar_inf hγ hc, EReal.top_add_coe, EReal.coe_mul_top_of_pos (mul_pos hs hs)]
      show _ * (0 : EReal) = _
      rw [mul_zero, zero_div, EReal.coe_zero]

/-- THE NODE STAGE. The normalized row, and the kernel's form of it with the mean folded into the matrix. -/
theorem node (ε : ℝ) (hε : 0 < ε) (h : Fin 64 → ℝ) (W : Fin 64 → Fin 64 → EReal) (b : Fin 64 → EReal) (k : Fin 64) :
    lin h (cmat W fun _ => 1) (crow b fun _ => 1) k
        * Ideal.rsqrt ((∑ l, lin h (cmat W fun _ => 1) (crow b fun _ => 1) l * lin h (cmat W fun _ => 1) (crow b fun _ => 1) l
          * ((1 / 64 : ℝ) : EReal)) + (ε : EReal))
      = nrm (ε : EReal) (lin h W b) k := by
  have h1 : ∀ k : Fin 64, (fun _ : Fin 64 => (1 : ℝ)) k ≠ 0 := fun _ => one_ne_zero
  have hw : (∑ l, lin h (cmat W fun _ => 1) (crow b fun _ => 1) l * lin h (cmat W fun _ => 1) (crow b fun _ => 1) l
      * ((1 / 64 : ℝ) : EReal)) = wvar (lin h (cmat W fun _ => 1) (crow b fun _ => 1)) fun _ => 1 := by
    rw [wvar]
    refine Finset.sum_congr rfl fun l _ => ?_
    rw [← EReal.coe_one, div_coe_coe _ (by norm_num), one_mul, one_mul]
  rw [hw]
  rcases lin_cases h W b h1 with ⟨z, hz, hc⟩ | ⟨⟨j, hj⟩, hc⟩
  · have hz' : lin h W b = fun k => (z k : EReal) := funext hz
    have hc' : lin h (cmat W fun _ => 1) (crow b fun _ => 1) = fun k => (((z k - (∑ l, z l) / 64) * 1 : ℝ) : EReal) := funext hc
    have hp : 0 < rvar z + ε := add_pos_of_nonneg_of_pos (rvar_nonneg z) hε
    rw [hz', hc', nrm_coe hε, wvar_coe h1, ← EReal.coe_add, rsqrt_coe hp, ← EReal.coe_mul, mul_one, ← div_eq_mul_inv]
  · rw [nrm_inf ε hj, wvar_inf h1 hc, EReal.top_add_coe]
    show _ * (0 : EReal) = _
    rw [mul_zero]

end Cert.Norm

end
-- ==== Proof.Net.lean ====
/- The network over its weights as functions of indices: the form the reference computes, edge by edge, the form the
   kernel computes, with the centring and the two last linear maps folded into the weights, and their equality. -/
module

public import proofs.«01_k».proof.Proof.Norm

@[expose] public section

noncomputable section

namespace Cert.Net

open Idealize.ShloMosaic Cert.Norm

/-- The slots and the weights, in the order in which both programs take them. -/
structure Data where
  S : Fin 512 → Fin 32 → Fin 128 → EReal
  W1 : Fin 256 → Fin 64 → EReal
  b1 : Fin 64 → EReal
  W2 : Fin 64 → Fin 64 → EReal
  b2 : Fin 64 → EReal
  γ : Fin 64 → EReal
  β : Fin 64 → EReal
  W3 : Fin 64 → Fin 64 → EReal
  b3 : Fin 64 → EReal
  N1 : Fin 192 → Fin 64 → EReal
  n1 : Fin 64 → EReal
  N2 : Fin 64 → Fin 64 → EReal
  n2 : Fin 64 → EReal
  g : Fin 64 → EReal
  h : Fin 64 → EReal
  N3 : Fin 64 → Fin 128 → EReal
  n3 : Fin 128 → EReal
  M : Fin 128 → Fin 16 → EReal
  μ : Fin 16 → EReal

/-- What the precondition says of the weights. -/
structure Data.Fine (D : Data) : Prop where
  S : ∀ b i d, ∃ r : ℝ, D.S b i d = r
  W1 : ∀ d k, ∃ r : ℝ, D.W1 d k = r
  b1 : ∀ k, ∃ r : ℝ, D.b1 k = r
  γ : ∀ k, ∃ r : ℝ, D.γ k = r
  γ0 : ∀ k, D.γ k ≠ 0
  β : ∀ k, D.β k = 0
  W3 : ∀ k m, ∃ r : ℝ, D.W3 k m = r
  b3 : ∀ k, ∃ r : ℝ, D.b3 k = r
  N1 : ∀ d k, ∃ r : ℝ, D.N1 d k = r
  n1 : ∀ k, ∃ r : ℝ, D.n1 k = r

/-- The number added to a variance. -/
def eps : EReal := Ideal.ofBits .f32 0x3727C5AC#32

/-- The number added to a variance is a positive real number. -/
theorem eps_pos : ∃ e : ℝ, 0 < e ∧ eps = (e : EReal) := by
  refine ⟨_, ?_, by simp [eps, Ideal.ofBits, Ideal.ieee]; rfl⟩
  norm_num

/-- The literal 64. -/
theorem lit_64 : Ideal.ofBits .f32 0x42800000#32 = ((64 : ℝ) : EReal) := by
  simp [Ideal.ofBits, Ideal.ieee]
  simp only [← EReal.coe_mul]
  norm_num

/-- The literal 1/64. -/
theorem lit_inv64 : Ideal.ofBits .f32 0x3C800000#32 = ((1 / 64 : ℝ) : EReal) := by
  simp [Ideal.ofBits, Ideal.ieee]
  simp only [← EReal.coe_mul]
  norm_num

/-- The literal 31. -/
theorem lit_31 : Ideal.ofBits .f32 0x41F80000#32 = ((31 : ℝ) : EReal) := by
  simp [Ideal.ofBits, Ideal.ieee]
  simp only [← EReal.coe_mul]
  norm_num

/-- The literal 4, the square of 2. -/
theorem lit_4 : Ideal.ofBits .f32 0x40800000#32 = ((2 * 2 : ℝ) : EReal) := by
  simp [Ideal.ofBits, Ideal.ieee]
  simp only [← EReal.coe_mul]
  norm_num

/-- The first 128 rows of a taller matrix. -/
def up {n : ℕ} (hn : 128 ≤ n) (d : Fin 128) : Fin n := ⟨d.val, by omega⟩

/-- The rows after the first 128 of a taller matrix. -/
def dn {n p : ℕ} (hn : 128 + p ≤ n) (d : Fin p) : Fin n := ⟨128 + d.val, by omega⟩

namespace Data

variable (D : Data)

/-- The first hidden layer of the edge from object `i` to object `j` of graph `b`. -/
def hid (b : Fin 512) (i j : Fin 32) (k : Fin 64) : EReal :=
  max (((∑ d : Fin 128, D.S b i d * D.W1 (up (by omega) d) k) + ∑ d : Fin 128, D.S b j d * D.W1 (dn (by omega) d) k)
    + D.b1 k) 0

/-- The second layer of an edge, before it is normalized. -/
def pre (b : Fin 512) (i j : Fin 32) (k : Fin 64) : EReal := (∑ m, D.hid b i j m * D.W2 m k) + D.b2 k

/-- The second layer of an edge. -/
def act (b : Fin 512) (i j : Fin 32) (k : Fin 64) : EReal := max (nrm eps (D.pre b i j) k * D.γ k + D.β k) 0

/-- What object `i` receives: the third layer of its edges to the other objects, summed. -/
def agg (b : Fin 512) (i : Fin 32) (o : Fin 64) : EReal :=
  ∑ j ∈ Finset.univ.erase i, ((∑ k, D.act b i j k * D.W3 k o) + D.b3 o)

/-- The first hidden layer of object `i`. -/
def node (b : Fin 512) (i : Fin 32) (o : Fin 64) : EReal :=
  max ((((∑ d : Fin 128, D.S b i d * D.N1 (up (by omega) d) o)
    + ∑ l : Fin 64, D.agg b i l * D.N1 (dn (by omega) l) o)) + D.n1 o) 0

/-- The second layer of an object, normalized. -/
def nact (b : Fin 512) (i : Fin 32) (k : Fin 64) : EReal :=
  nrm eps (fun k => (∑ o, D.node b i o * D.N2 o k) + D.n2 k) k

/-- The network's result, from the normalized second layer `z` of the objects. -/
def out (z : Fin 512 → Fin 32 → Fin 64 → EReal) (b : Fin 512) (o : Fin 16) : EReal :=
  (∑ d : Fin 128, (∑ i : Fin 32, max ((∑ k : Fin 64, max (z b i k * D.g k + D.h k) 0 * D.N3 k d) + D.n3 d) 0) * D.M d o)
    + D.μ o

/-! The kernel's form. -/

/-- The second layer of an edge, centred and scaled by folded weights. -/
def kpre (b : Fin 512) (i j : Fin 32) (k : Fin 64) : EReal :=
  (∑ m, D.hid b i j m * ((∑ l, D.W2 m l * (cen l k : EReal)) * D.γ k)) + (∑ l, D.b2 l * (cen l k : EReal)) * D.γ k

/-- The variance that the kernel recovers from the scaled row. -/
def kvar (b : Fin 512) (i j : Fin 32) : EReal :=
  ∑ l, D.kpre b i j l * D.kpre b i j l * Ideal.div 1 (D.γ l * D.γ l * ((64 : ℝ) : EReal))

/-- The second layer of an edge, divided by `t` when `t` is the root of `s`. -/
def kact (s : EReal) (b : Fin 512) (i j : Fin 32) (k : Fin 64) : EReal :=
  max (D.kpre b i j k) 0 * Ideal.rsqrt (s * (D.kvar b i j + eps))

/-- The first hidden layer of object `i` in the kernel's form. -/
def knode (b : Fin 512) (i : Fin 32) (o : Fin 64) : EReal :=
  max ((∑ d : Fin 128, D.S b i d * D.N1 (up (by omega) d) o)
    + (∑ s : Fin 2, ∑ k : Fin 64, ((∑ q : Fin 16, D.kact 1 b i ⟨2 * q.val + s.val, by omega⟩ k)
        - D.kact ((2 * 2 : ℝ) : EReal) b i i k) * ∑ l : Fin 64, D.W3 k l * D.N1 (dn (by omega) l) o)
    + (((31 : ℝ) : EReal) * (∑ l : Fin 64, D.b3 l * D.N1 (dn (by omega) l) o) + D.n1 o)) 0

/-- The second layer of an object, centred by folded weights. -/
def kz (u : Fin 64 → EReal) (k : Fin 64) : EReal :=
  (∑ o, u o * ∑ l, D.N2 o l * (cen l k : EReal)) + ∑ l, D.n2 l * (cen l k : EReal)

/-- The second layer of an object, normalized by the kernel. -/
def knact (b : Fin 512) (i : Fin 32) (k : Fin 64) : EReal :=
  D.kz (D.knode b i) k * Ideal.rsqrt ((∑ l, D.kz (D.knode b i) l * D.kz (D.knode b i) l * ((1 / 64 : ℝ) : EReal)) + eps)

variable {D}

/-- On fine data the first hidden layer of an edge is a row of real numbers. -/
theorem hid_real (hD : D.Fine) (b : Fin 512) (i j : Fin 32) : ∃ f : Fin 64 → ℝ, D.hid b i j = fun k => (f k : EReal) := by
  choose S hS using hD.S
  choose W1 hW using hD.W1
  choose b1 hb using hD.b1
  refine ⟨fun k => max (((∑ d : Fin 128, S b i d * W1 (up (by omega) d) k) + ∑ d : Fin 128, S b j d * W1 (dn (by omega) d) k)
    + b1 k) 0, funext fun k => ?_⟩
  simp only [hid, hS, hW, hb, ← EReal.coe_mul, ← coe_sum, ← EReal.coe_add]
  rw [← EReal.coe_zero, max_coe]

/-- The kernel's second layer of an edge is the reference's, a real number. -/
theorem kact_eq (hD : D.Fine) (b : Fin 512) (i j : Fin 32) (k : Fin 64) :
    ∃ y : ℝ, D.act b i j k = (y : EReal) ∧ D.kact 1 b i j k = (y : EReal)
      ∧ D.kact ((2 * 2 : ℝ) : EReal) b i j k = ((y / 2 : ℝ) : EReal) := by
  obtain ⟨f, hf⟩ := hid_real hD b i j
  choose γ hγ using hD.γ
  obtain ⟨e, he, hε⟩ := eps_pos
  have hγ0 : ∀ k, γ k ≠ 0 := fun k h => hD.γ0 k (by rw [hγ, h, EReal.coe_zero])
  have h1 : D.pre b i j = lin f D.W2 D.b2 := by
    funext k; simp only [pre, hf, lin]
  have h2 : D.kpre b i j = lin f (cmat D.W2 γ) (crow D.b2 γ) := by
    funext k; simp only [kpre, hf, hγ, lin, cmat, crow]
  have h3 : D.kvar b i j = wvar (lin f (cmat D.W2 γ) (crow D.b2 γ)) γ := by
    simp only [kvar, h2, hγ, wvar, EReal.coe_mul]
  obtain ⟨y, hy, hk⟩ := edge e he f D.W2 D.b2 hγ0 k
  refine ⟨y, ?_, ?_, ?_⟩
  · rw [act, h1, hε, hγ, hD.β, hy]
  · have := hk 1 one_pos
    rw [kact, h2, h3, hε]
    simpa using this
  · rw [kact, h2, h3, hε, hk 2 two_pos]

/-- A sum over the pairs of halves is the sum over all objects. -/
theorem sum_halves (f : Fin 32 → ℝ) : ∑ s : Fin 2, ∑ q : Fin 16, f ⟨2 * q.val + s.val, by omega⟩ = ∑ j, f j := by
  rw [Finset.sum_comm, ← Finset.sum_product', Finset.univ_product_univ]
  refine Eq.trans (Finset.sum_congr rfl fun x _ => congrArg f (Fin.ext ?_)) (Equiv.sum_comp (finProdFinEquiv (m := 16) (n := 2)) f)
  show 2 * x.1.val + x.2.val = x.2.val + 2 * x.1.val
  omega

/-- The first hidden layer of an object is a real number, and the kernel's is the reference's. -/
theorem knode_eq (hD : D.Fine) (b : Fin 512) (i : Fin 32) :
    D.knode b i = D.node b i ∧ ∃ f : Fin 64 → ℝ, D.node b i = fun o => (f o : EReal) := by
  choose y hy hk hk2 using fun j k => kact_eq hD b i j k
  choose S hS using hD.S
  choose N1 hN using hD.N1
  choose n1 hn using hD.n1
  choose W3 hW using hD.W3
  choose b3 hb using hD.b3
  have hagg : ∀ o, D.agg b i o = ((∑ j ∈ Finset.univ.erase i, ((∑ k, y j k * W3 k o) + b3 o) : ℝ) : EReal) := fun o => by
    simp only [agg, hy, hW, hb, ← EReal.coe_mul, ← coe_sum, ← EReal.coe_add]
  have hnode : ∀ o, D.node b i o = ((max (((∑ d : Fin 128, S b i d * N1 (up (by omega) d) o)
      + ∑ l : Fin 64, (∑ j ∈ Finset.univ.erase i, ((∑ k, y j k * W3 k l) + b3 l)) * N1 (dn (by omega) l) o)
      + n1 o) 0 : ℝ) : EReal) := fun o => by
    simp only [node, hagg, hS, hN, hn, ← EReal.coe_mul, ← coe_sum, ← EReal.coe_add]
    rw [← EReal.coe_zero, max_coe]
  refine ⟨funext fun o => ?_, _, funext hnode⟩
  rw [hnode]
  simp only [knode, hk, hk2, hS, hN, hn, hW, hb, ← EReal.coe_mul, ← coe_sum, ← EReal.coe_add, ← EReal.coe_sub]
  rw [← EReal.coe_zero, max_coe]
  refine congrArg (fun x : ℝ => ((max x 0 : ℝ) : EReal)) ?_
  have hs : ∀ k, ∑ s : Fin 2, ((∑ q : Fin 16, y ⟨2 * q.val + s.val, by omega⟩ k) - y i k / 2)
      = ∑ j ∈ Finset.univ.erase i, y j k := fun k => by
    rw [Finset.sum_sub_distrib, sum_halves (fun j => y j k), ← Finset.sum_erase_add _ _ (Finset.mem_univ i)]
    simp
    ring
  have hl : ∑ s : Fin 2, ∑ k : Fin 64, ((∑ q : Fin 16, y ⟨2 * q.val + s.val, by omega⟩ k) - y i k / 2)
        * ∑ l : Fin 64, W3 k l * N1 (dn (by omega) l) o
      = ∑ k : Fin 64, (∑ j ∈ Finset.univ.erase i, y j k) * ∑ l : Fin 64, W3 k l * N1 (dn (by omega) l) o := by
    rw [Finset.sum_comm]
    exact Finset.sum_congr rfl fun k _ => by rw [← Finset.sum_mul, hs]
  have hr : ∑ l : Fin 64, (∑ j ∈ Finset.univ.erase i, ((∑ k, y j k * W3 k l) + b3 l)) * N1 (dn (by omega) l) o
      = (∑ k : Fin 64, (∑ j ∈ Finset.univ.erase i, y j k) * ∑ l : Fin 64, W3 k l * N1 (dn (by omega) l) o)
        + 31 * ∑ l : Fin 64, b3 l * N1 (dn (by omega) l) o := by
    have hc : (Finset.univ.erase i).card = 31 := by rw [Finset.card_erase_of_mem (Finset.mem_univ i)]; rfl
    simp only [Finset.sum_add_distrib, Finset.sum_const, hc, nsmul_eq_mul, add_mul]
    rw [Finset.mul_sum]
    congr 1
    · simp only [Finset.sum_mul, Finset.mul_sum]
      have sw : ∀ w : Fin 64 → Fin 32 → ℝ, ∑ l, ∑ j ∈ Finset.univ.erase i, w l j = ∑ j ∈ Finset.univ.erase i, ∑ l, w l j :=
        fun w => Finset.sum_comm
      simp only [sw]
      refine Finset.sum_congr rfl fun j _ => ?_
      rw [Finset.sum_comm]
      exact Finset.sum_congr rfl fun k _ => Finset.sum_congr rfl fun l _ => by ring
    · exact Finset.sum_congr rfl fun l _ => by push_cast; ring
  rw [hl, hr]
  ring

/-- The kernel's normalized second layer of an object is the reference's. -/
theorem knact_eq (hD : D.Fine) (b : Fin 512) (i : Fin 32) (k : Fin 64) : D.knact b i k = D.nact b i k := by
  obtain ⟨hk, f, hf⟩ := knode_eq hD b i
  obtain ⟨e, he, hε⟩ := eps_pos
  have hz : ∀ k, D.kz (D.knode b i) k = lin f (cmat D.N2 fun _ => 1) (crow D.n2 fun _ => 1) k := fun k => by
    simp only [kz, hk, hf, lin, cmat, crow, EReal.coe_one, mul_one]
  simp only [knact, hz, hε]
  rw [Norm.node e he]
  simp only [nact, hf, hε]
  rfl

/-- The two forms of the network give the same result. -/
theorem out_eq (hD : D.Fine) (b : Fin 512) (o : Fin 16) : D.out D.knact b o = D.out D.nact b o := by
  have : D.knact = D.nact := funext fun b => funext fun i => funext fun k => knact_eq hD b i k
  rw [this]

end Data

end Cert.Net

end
-- ==== Proof.Prefix.lean ====
/- The host program's operands of the kernel read at an index, over the arguments. -/
module

public import proofs.«01_k».proof.Proof.Gen.KernelIdeal.Value
public import proofs.«01_k».proof.Proof.Gen.KernelIdeal
public import proofs.«01_k».proof.Proof.Net
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Prefix

open Cert.KernelIdeal Cert.KernelIdeal.Gen Idealize.ShloMosaic Idealize.ShloMosaic.TcCoe Idealize.SL.Sem

/-- Lane `k` of half `s` of the doubled hidden axis. -/
def lane (s : Fin 2) (k : Fin 64) : Fin 128 := ⟨s.val * 64 + k.val, by have := s.isLt; have := k.isLt; omega⟩

/-- Coordinate `d` of half `s` of the doubled slot axis. -/
def wide (s : Fin 2) (d : Fin 128) : Fin 256 := ⟨s.val * 128 + d.val, by have := s.isLt; have := d.isLt; omega⟩

variable (m : (ℓ : Loc nD τ sig) → Buf (Elt Ideal) ℓ) (c : Dev nD)

/-- The kernel's arguments as functions of indices. -/
def data : Net.Data where
  S := fun i j k => m ((c : Thread nD τ).loc main_arg0) (ix3 i j k)
  W1 := fun i j => m ((c : Thread nD τ).loc main_arg1) (ix2 i j)
  b1 := fun i => m ((c : Thread nD τ).loc main_arg2) (ix1 i)
  W2 := fun i j => m ((c : Thread nD τ).loc main_arg3) (ix2 i j)
  b2 := fun i => m ((c : Thread nD τ).loc main_arg4) (ix1 i)
  γ := fun i => m ((c : Thread nD τ).loc main_arg5) (ix1 i)
  β := fun i => m ((c : Thread nD τ).loc main_arg6) (ix1 i)
  W3 := fun i j => m ((c : Thread nD τ).loc main_arg7) (ix2 i j)
  b3 := fun i => m ((c : Thread nD τ).loc main_arg8) (ix1 i)
  N1 := fun i j => m ((c : Thread nD τ).loc main_arg9) (ix2 i j)
  n1 := fun i => m ((c : Thread nD τ).loc main_arg10) (ix1 i)
  N2 := fun i j => m ((c : Thread nD τ).loc main_arg11) (ix2 i j)
  n2 := fun i => m ((c : Thread nD τ).loc main_arg12) (ix1 i)
  g := fun i => m ((c : Thread nD τ).loc main_arg13) (ix1 i)
  h := fun i => m ((c : Thread nD τ).loc main_arg14) (ix1 i)
  N3 := fun i j => m ((c : Thread nD τ).loc main_arg15) (ix2 i j)
  n3 := fun i => m ((c : Thread nD τ).loc main_arg16) (ix1 i)
  M := fun i j => m ((c : Thread nD τ).loc main_arg17) (ix2 i j)
  μ := fun i => m ((c : Thread nD τ).loc main_arg18) (ix1 i)

/-- The sender's part of the first edge layer, in each half. -/
theorem v21_at (d : Fin 128) (s : Fin 2) (k : Fin 64) :
    V m c main_v21 (ix2 d (lane s k))
      = (data m c).W1 (Net.up (by omega) d) k := by
  unfold V
  simp only [List.flatten_cons, List.flatten_nil, List.append_nil, lane, data, Net.up]
  fin_cases s <;> after_reads_at

/-- The receiver's part of the first edge layer, in each half. -/
theorem v22_at (d : Fin 128) (s : Fin 2) (k : Fin 64) :
    V m c main_v22 (ix2 d (lane s k))
      = (data m c).W1 (Net.dn (by omega) d) k := by
  unfold V
  simp only [List.flatten_cons, List.flatten_nil, List.append_nil, lane, data, Net.dn]
  fin_cases s <;> after_reads_at

/-- The first edge layer's added row, in each half. -/
theorem v24_at (s : Fin 2) (k : Fin 64) :
    V m c main_v24 (ix1 (lane s k))
      = (data m c).b1 k := by
  unfold V
  simp only [List.flatten_cons, List.flatten_nil, List.append_nil, lane, data]
  fin_cases s <;> after_reads_at

/-- The receiver's part of the first edge layer, block-diagonal. -/
theorem v23_at (d : Fin 128) (s' s : Fin 2) (k : Fin 64) :
    V m c main_v23 (ix2 (wide s' d) (lane s k))
      = if s' = s then (data m c).W1 (Net.dn (by omega) d) k else 0 := by
  unfold V
  simp only [List.flatten_cons, List.flatten_nil, List.append_nil, lane, wide, data, Net.dn]
  fin_cases s <;> fin_cases s' <;> (after_reads_at; after_reads_at; after_reads_at)

/-- A matrix entry of the centring matrix from its words. -/
theorem cen_word (k l : Fin 64) :
    FloatOps.uitofp (F := Ideal) FTy.f32
        (IntOp.cmpi CmpIPredicate.eq (IntOp.addi (BitVec.ofNat 32 k.val) 0#32) (BitVec.ofNat 32 l.val))
      - Ideal.ofBits FTy.f32 0x3C800000#32 = (Norm.cen k l : EReal) := by
  rw [Net.lit_inv64]
  have h : IntOp.cmpi CmpIPredicate.eq (IntOp.addi (BitVec.ofNat 32 k.val) 0#32) (BitVec.ofNat 32 l.val)
      = if k = l then 1#1 else 0#1 := by
    rw [show IntOp.addi (BitVec.ofNat 32 k.val) 0#32 = BitVec.ofNat 32 k.val from BitVec.add_zero _]
    word_cmp
    simp only [Fin.ext_iff]
    split <;> simp [*]
  rw [h]
  unfold Norm.cen
  split <;> simp [FloatOps.uitofp]

/-- The second edge layer's matrix, centred, scaled and block-diagonal. -/
theorem v25_at (s s' : Fin 2) (k k' : Fin 64) :
    V m c main_v25 (ix2 (lane s k) (lane s' k'))
      = if s = s' then (∑ l, (data m c).W2 k l * (Norm.cen l k' : EReal)) * (data m c).γ k' else 0 := by
  unfold V
  simp only [List.flatten_cons, List.flatten_nil, List.append_nil, lane, data, ← cen_word]
  fin_cases s <;> fin_cases s' <;> (after_reads_at; after_reads_at; try after_reads_at)

/-- The second edge layer's added row, centred and scaled, in each half. -/
theorem v26_at (s : Fin 2) (k : Fin 64) :
    V m c main_v26 (ix1 (lane s k))
      = (∑ l, (data m c).b2 l * (Norm.cen l k : EReal)) * (data m c).γ k := by
  unfold V
  simp only [List.flatten_cons, List.flatten_nil, List.append_nil, lane, data, ← cen_word]
  fin_cases s <;> (after_reads_at; try after_reads_at)

/-- The weights of the squares in the edge variance. -/
theorem v34_at (s s' : Fin 2) (k k' : Fin 64) :
    V m c main_v34 (ix2 (lane s k) (lane s' k'))
      = if s = s' then Ideal.div 1 ((data m c).γ k * (data m c).γ k * ((64 : ℝ) : EReal)) else 0 := by
  unfold V
  simp only [List.flatten_cons, List.flatten_nil, List.append_nil, lane, data, ← Net.lit_64]
  fin_cases s <;> fin_cases s' <;> (after_reads_at; after_reads_at; try after_reads_at)

/-- The third edge layer followed by the node layer, in each half. -/
theorem v38_at (s : Fin 2) (k o : Fin 64) :
    V m c main_v38 (ix2 (lane s k) o)
      = ∑ l : Fin 64, (data m c).W3 k l * (data m c).N1 (Net.dn (by omega) l) o := by
  unfold V
  simp only [List.flatten_cons, List.flatten_nil, List.append_nil, lane, data, Net.dn]
  fin_cases s <;> (after_reads_at; after_reads_at)

/-- The slots' part of the first node layer. -/
theorem v36_at (d : Fin 128) (o : Fin 64) :
    V m c main_v36 (ix2 d o)
      = (data m c).N1 (Net.up (by omega) d) o := by
  unfold V
  simp only [List.flatten_cons, List.flatten_nil, List.append_nil, data, Net.up]
  after_reads_at

/-- The first node layer's added row, with what the 31 edges add. -/
theorem v42_at (o : Fin 64) :
    V m c main_v42 (ix1 o)
      = ((31 : ℝ) : EReal) * (∑ l : Fin 64, (data m c).b3 l * (data m c).N1 (Net.dn (by omega) l) o) + (data m c).n1 o := by
  unfold V
  simp only [List.flatten_cons, List.flatten_nil, List.append_nil, data, Net.dn, ← Net.lit_31]
  after_reads_at

/-- The second node layer's matrix, centred. -/
theorem v14_at (k k' : Fin 64) :
    V m c main_v14 (ix2 k k')
      = ∑ l, (data m c).N2 k l * (Norm.cen l k' : EReal) := by
  unfold V
  simp only [List.flatten_cons, List.flatten_nil, List.append_nil, data, ← cen_word]
  after_reads_at

/-- The second node layer's added row, centred. -/
theorem v15_at (k : Fin 64) :
    V m c main_v15 (ix1 k)
      = ∑ l, (data m c).n2 l * (Norm.cen l k : EReal) := by
  unfold V
  simp only [List.flatten_cons, List.flatten_nil, List.append_nil, data, ← cen_word]
  after_reads_at

/-- The weights of the squares in the node variance. -/
theorem v16_at (k l : Fin 64) :
    V m c main_v16 (ix2 k l)
      = ((1 / 64 : ℝ) : EReal) := by
  unfold V
  simp only [List.flatten_cons, List.flatten_nil, List.append_nil, ← Net.lit_inv64]
  after_reads_at

/-- The slots, two objects side by side. -/
theorem v43_at (b : Fin 512) (q : Fin 16) (s : Fin 2) (d : Fin 128) :
    V m c main_v43 (ix3 b q (wide s d)) = (data m c).S b ⟨2 * q.val + s.val, by omega⟩ d := by
  unfold V
  simp only [List.flatten_cons, List.flatten_nil, List.append_nil, wide, data]
  after_reads_at
  refine congrArg (m (c, Proc.tc.devRef main_arg0)) (congrArg (fun a => ix3 b a d) (Fin.ext ?_))
  show q.val * 2 + (s.val * 128 + d.val) / 128 = 2 * q.val + s.val
  omega

end Cert.Prefix

end
-- ==== Proof.Point.lean ====
/- The kernel body's value at an index in the kernel's form of the network, when the blocks hold what the host
   program and the arguments put there. -/
module

public import proofs.«01_k».proof.Proof.Payload
public import proofs.«01_k».proof.Proof.Prefix

@[expose] public section

set_option maxRecDepth 16384

noncomputable section

namespace Cert.Point

open Cert.KernelIdeal Cert.KernelIdeal.Gen Idealize.ShloMosaic
open Cert.Prefix Cert.Payload

/-- A sum over the doubled hidden axis, half by half. -/
theorem sum_lane (f : Fin 128 → EReal) : ∑ l, f l = ∑ s, ∑ k, f (lane s k) := by
  rw [← Finset.sum_product', Finset.univ_product_univ]
  refine Eq.trans (Equiv.sum_comp (finProdFinEquiv (m := 2) (n := 64)) f).symm
    (Finset.sum_congr rfl fun x _ => congrArg f (Fin.ext ?_))
  show x.2.val + 64 * x.1.val = x.1.val * 64 + x.2.val
  omega

/-- A sum over the doubled slot axis, half by half. -/
theorem sum_wide (f : Fin 256 → EReal) : ∑ l, f l = ∑ s, ∑ d, f (wide s d) := by
  rw [← Finset.sum_product', Finset.univ_product_univ]
  refine Eq.trans (Equiv.sum_comp (finProdFinEquiv (m := 2) (n := 128)) f).symm
    (Finset.sum_congr rfl fun x _ => congrArg f (Fin.ext ?_))
  show x.2.val + 128 * x.1.val = x.1.val * 128 + x.2.val
  omega

/-- A product with a block-diagonal matrix keeps to one half. -/
theorem half_sum {n : ℕ} (s : Fin 2) (f : Fin 2 → Fin n → EReal) (g : Fin n → EReal) :
    ∑ s', ∑ k, f s' k * (if s' = s then g k else 0) = ∑ k, f s k * g k := by
  rw [Finset.sum_eq_single s]
  · simp
  · intro s' _ h
    simp [h]
  · simp

variable {x0 : FVec Ideal S128x32x128 .f32} {x1 : FVec Ideal S128x16x256 .f32} {x2 : FVec Ideal S128x128 .f32}
  {x3 : FVec Ideal S128 .f32} {x4 : FVec Ideal S128x128 .f32} {x5 : FVec Ideal S256x128 .f32} {x6 : FVec Ideal S128x128 .f32}
  {x7 : FVec Ideal S128 .f32} {x8 : FVec Ideal S128x128 .f32} {x9 : FVec Ideal S128x64 .f32} {x10 : FVec Ideal S128x64 .f32}
  {x11 : FVec Ideal S64 .f32} {x12 : FVec Ideal S64x64 .f32} {x13 : FVec Ideal S64 .f32} {x14 : FVec Ideal S64x64 .f32}
  {x15 x16 : FVec Ideal S64 .f32} {x17 : FVec Ideal S64x128 .f32} {x18 : FVec Ideal S128 .f32}
  {x19 : FVec Ideal S128x16 .f32} {x20 : FVec Ideal S16 .f32}

variable (D : Net.Data) (r : Fin 128 → Fin 512)

/-- What the blocks that the edge layers read hold. -/
structure EdgeBlocks (x0 : FVec Ideal S128x32x128 .f32) (x1 : FVec Ideal S128x16x256 .f32) (x2 : FVec Ideal S128x128 .f32)
    (x3 : FVec Ideal S128 .f32) (x4 : FVec Ideal S128x128 .f32) (x5 : FVec Ideal S256x128 .f32) (x6 : FVec Ideal S128x128 .f32)
    (x7 : FVec Ideal S128 .f32) (x8 : FVec Ideal S128x128 .f32) : Prop where
  h0 : ∀ b i d, x0 (ix3 b i d) = D.S (r b) i d
  h1 : ∀ b q s d, x1 (ix3 b q (wide s d)) = D.S (r b) ⟨2 * q.val + s.val, by omega⟩ d
  h2 : ∀ d s k, x2 (ix2 d (lane s k)) = D.W1 (Net.up (by omega) d) k
  h3 : ∀ s k, x3 (ix1 (lane s k)) = D.b1 k
  h4 : ∀ d s k, x4 (ix2 d (lane s k)) = D.W1 (Net.dn (by omega) d) k
  h5 : ∀ d s' s k, x5 (ix2 (wide s' d) (lane s k)) = if s' = s then D.W1 (Net.dn (by omega) d) k else 0
  h6 : ∀ s s' k k', x6 (ix2 (lane s k) (lane s' k')) = if s = s' then (∑ l, D.W2 k l * (Norm.cen l k' : EReal)) * D.γ k' else 0
  h7 : ∀ s k, x7 (ix1 (lane s k)) = (∑ l, D.b2 l * (Norm.cen l k : EReal)) * D.γ k
  h8 : ∀ s s' k k', x8 (ix2 (lane s k) (lane s' k')) = if s = s' then Ideal.div 1 (D.γ k * D.γ k * ((64 : ℝ) : EReal)) else 0

/-- What the blocks that the node layers read hold. -/
structure NodeBlocks (x9 : FVec Ideal S128x64 .f32) (x10 : FVec Ideal S128x64 .f32)
    (x11 : FVec Ideal S64 .f32) (x12 : FVec Ideal S64x64 .f32) (x13 : FVec Ideal S64 .f32) (x14 : FVec Ideal S64x64 .f32)
    (x15 x16 : FVec Ideal S64 .f32) (x17 : FVec Ideal S64x128 .f32) (x18 : FVec Ideal S128 .f32)
    (x19 : FVec Ideal S128x16 .f32) (x20 : FVec Ideal S16 .f32) : Prop where
  h9 : ∀ s k o, x9 (ix2 (lane s k) o) = ∑ l : Fin 64, D.W3 k l * D.N1 (Net.dn (by omega) l) o
  h10 : ∀ d o, x10 (ix2 d o) = D.N1 (Net.up (by omega) d) o
  h11 : ∀ o, x11 (ix1 o) = ((31 : ℝ) : EReal) * (∑ l : Fin 64, D.b3 l * D.N1 (Net.dn (by omega) l) o) + D.n1 o
  h12 : ∀ k k', x12 (ix2 k k') = ∑ l, D.N2 k l * (Norm.cen l k' : EReal)
  h13 : ∀ k, x13 (ix1 k) = ∑ l, D.n2 l * (Norm.cen l k : EReal)
  h14 : ∀ k l, x14 (ix2 k l) = ((1 / 64 : ℝ) : EReal)
  h15 : ∀ k, x15 (ix1 k) = D.g k
  h16 : ∀ k, x16 (ix1 k) = D.h k
  h17 : ∀ k d, x17 (ix2 k d) = D.N3 k d
  h18 : ∀ d, x18 (ix1 d) = D.n3 d
  h19 : ∀ d o, x19 (ix2 d o) = D.M d o
  h20 : ∀ o, x20 (ix1 o) = D.μ o

variable {D r}

/-- The second edge layer of a pair of edges, at the half of one of them. -/
theorem pre_at (hE : EdgeBlocks D r x0 x1 x2 x3 x4 x5 x6 x7 x8) (b : Fin 128) (q : Fin 16) (i : Fin 32) (s : Fin 2) (k : Fin 64) :
    k0_pay7 (F := Ideal) x0 x1 x6 x7 x2 x3 x5 (ix2 (r6 b q i) (lane s k)) = D.kpre (r b) i ⟨2 * q.val + s.val, by omega⟩ k := by
  rw [pay7_at, sum_lane]
  simp only [hE.h6, hE.h7, half_sum, sum_wide, hE.h5, hE.h1, hE.h2, hE.h3, hE.h0]
  simp only [Net.Data.kpre, Net.Data.hid, add_right_comm]

/-- The variance of the second edge layer at a half. -/
theorem var_at (hE : EdgeBlocks D r x0 x1 x2 x3 x4 x5 x6 x7 x8) (b : Fin 128) (q : Fin 16) (i : Fin 32) (s : Fin 2) (k : Fin 64) :
    k0_pay8 (F := Ideal) x0 x1 x8 x6 x7 x2 x3 x5 (ix2 (r6 b q i) (lane s k)) = D.kvar (r b) i ⟨2 * q.val + s.val, by omega⟩ := by
  rw [pay8_at, sum_lane]
  simp only [hE.h8, half_sum, pre_at hE]
  rfl

/-- The second layer of the edge that an object would send itself. -/
theorem self_at (hE : EdgeBlocks D r x0 x1 x2 x3 x4 x5 x6 x7 x8) (b : Fin 128) (i : Fin 32) (s : Fin 2) (k : Fin 64) :
    selfC x0 x2 x3 x4 x6 x7 b i (lane s k) = D.kpre (r b) i i k := by
  rw [selfC, sum_lane]
  simp only [selfH, hE.h6, hE.h7, half_sum, hE.h4, hE.h2, hE.h3, hE.h0]
  simp only [Net.Data.kpre, Net.Data.hid, add_right_comm]

/-- The variance of the second layer of the edge that an object would send itself. -/
theorem selfVar_at (hE : EdgeBlocks D r x0 x1 x2 x3 x4 x5 x6 x7 x8) (b : Fin 128) (i : Fin 32) (s : Fin 2) (k : Fin 64) :
    ∑ m : Fin 128, selfC x0 x2 x3 x4 x6 x7 b i m * selfC x0 x2 x3 x4 x6 x7 b i m * x8 (ix2 m (lane s k))
      = D.kvar (r b) i i := by
  rw [sum_lane]
  simp only [hE.h8, half_sum, self_at hE]
  rfl

/-- The first node layer, before its added row. -/
theorem node_at (hE : EdgeBlocks D r x0 x1 x2 x3 x4 x5 x6 x7 x8)
    (hN : NodeBlocks D x9 x10 x11 x12 x13 x14 x15 x16 x17 x18 x19 x20) (b : Fin 128) (i : Fin 32) (o : Fin 64) :
    max (k0_pay10 (F := Ideal) (k0_pay2 x0) (k0_pay3 x8) (k0_pay4 x6) (k0_pay5 x7) (k0_pay6 x0 x2 x3) (k0_pay7 x0 x1 x6 x7 x2 x3 x5)
        (k0_pay8 x0 x1 x8 x6 x7 x2 x3 x5) k0_pay9 x4 x10 x9 (ix2 (r4 b i) o) + x11 (ix1 o)) 0
      = D.knode (r b) i o := by
  have e1 : (∑ d : Fin 128, x0 (ix3 b i d) * x10 (ix2 d o)) = ∑ d : Fin 128, D.S (r b) i d * D.N1 (Net.up (by omega) d) o := by
    simp only [hE.h0, hN.h10]
  rw [pay10_at, e1]
  generalize hA : (∑ d : Fin 128, D.S (r b) i d * D.N1 (Net.up (by omega) d) o) = A
  rw [sum_lane]
  simp only [pre_at hE, var_at hE, self_at hE, selfVar_at hE, hN.h9, hN.h11, Net.lit_4]
  rw [← hA]
  rfl

/-- The body's value at an index. -/
theorem out_at (hE : EdgeBlocks D r x0 x1 x2 x3 x4 x5 x6 x7 x8)
    (hN : NodeBlocks D x9 x10 x11 x12 x13 x14 x15 x16 x17 x18 x19 x20) (b : Fin 128) (o : Fin 16) :
    k0_pay1 (F := Ideal) (k0_pay12 (k0_pay10 (k0_pay2 x0) (k0_pay3 x8) (k0_pay4 x6) (k0_pay5 x7) (k0_pay6 x0 x2 x3)
        (k0_pay7 x0 x1 x6 x7 x2 x3 x5) (k0_pay8 x0 x1 x8 x6 x7 x2 x3 x5) k0_pay9 x4 x10 x9) (k0_pay11 x11)
        x12 x13 x14 x15 x16 x17 x18) x19 x20 (ix2 b o)
      = D.out D.knact (r b) o := by
  rw [pay1_at]
  simp only [pay12_at _ x11 x12 x13 x14 x15 x16 x17 x18 b _ (D.knode (r b)) (node_at hE hN b)
    (fun i k => D.kz (D.knode (r b) i) k) (fun i k => by simp only [hN.h12, hN.h13]; rfl),
    hN.h14, hN.h15, hN.h16, hN.h17, hN.h18, hN.h19, hN.h20]
  rfl

end Cert.Point

end
-- ==== Proof.Blocks.lean ====
/- The kernel's result over its arguments, at every index. -/
module

public import proofs.«01_k».proof.Proof.Point

@[expose] public section

set_option maxRecDepth 16384

noncomputable section

namespace Cert.Blocks

open Cert.KernelIdeal Cert.KernelIdeal.Gen Idealize.ShloMosaic Idealize.ShloMosaic.TcCoe Idealize.SL.Sem
open Idealize.ShloMosaic.Pipeline (Dat)
open Cert.Prefix Cert.Payload Cert.Point

/-- Which block of each array a grid point takes. -/
theorem idx : ∀ t : Fin cfg0.N,
    win0_0.index t = ![t.val, 0, 0] ∧ win0_1.index t = ![t.val, 0, 0] ∧ win0_2.index t = ![0, 0] ∧
    win0_3.index t = ![0] ∧ win0_4.index t = ![0, 0] ∧ win0_5.index t = ![0, 0] ∧ win0_6.index t = ![0, 0] ∧
    win0_7.index t = ![0] ∧ win0_8.index t = ![0, 0] ∧ win0_9.index t = ![0, 0] ∧ win0_10.index t = ![0, 0] ∧
    win0_11.index t = ![0] ∧ win0_12.index t = ![0, 0] ∧ win0_13.index t = ![0] ∧ win0_14.index t = ![0, 0] ∧
    win0_15.index t = ![0] ∧ win0_16.index t = ![0] ∧ win0_17.index t = ![0, 0] ∧ win0_18.index t = ![0] ∧
    win0_19.index t = ![0, 0] ∧ win0_20.index t = ![0] ∧ win0_21.index t = ![t.val, 0] :=
  (by decide +kernel : ∀ t : Fin grid0.N, _)

/-- There are four grid points. -/
theorem lt_4 (t : Fin cfg0.N) : t.val < 4 := lt_of_lt_of_eq t.isLt N_0

/-- The graph that row `b` of grid point `t`'s block belongs to. -/
def graph (t : Fin cfg0.N) (b : Fin 128) : Fin 512 := ⟨t.val * 128 + b.val, by have := lt_4 t; omega⟩

variable (m : (ℓ : Loc nD τ sig) → Buf (Elt Ideal) ℓ) (c : Dev nD) (t : Fin cfg0.N)

/-- The block of slots at a grid point is the slots of its graphs. -/
theorem blk0 (b : Fin 128) (i : Fin 32) (d : Fin 128) : iblk m c 0 t (ix3 b i d) = (data m c).S (graph t b) i d := by
  show _ = m ((c : Thread nD τ).loc main_arg0) (ix3 (graph t b) i d)
  simp only [graph]
  blk_ext [iblk, V, idx t]

/-- The block of paired slots at a grid point is the paired slots of its graphs. -/
theorem blk1 (b : Fin 128) (q : Fin 16) (w : Fin 256) :
    iblk m c 1 t (ix3 b q w) = V m c main_v43 (ix3 (graph t b) q w) := by
  simp only [graph]
  blk_ext [iblk, idx t]

/-- Operand 2 is taken whole at every grid point. -/
theorem blk2 : iblk m c 2 t = V m c main_v21 := by blk_ext! [iblk, idx t]
/-- Operand 3 is taken whole at every grid point. -/
theorem blk3 : iblk m c 3 t = V m c main_v24 := by blk_ext! [iblk, idx t]
/-- Operand 4 is taken whole at every grid point. -/
theorem blk4 : iblk m c 4 t = V m c main_v22 := by blk_ext! [iblk, idx t]
/-- Operand 5 is taken whole at every grid point. -/
theorem blk5 : iblk m c 5 t = V m c main_v23 := by blk_ext! [iblk, idx t]
/-- Operand 6 is taken whole at every grid point. -/
theorem blk6 : iblk m c 6 t = V m c main_v25 := by blk_ext! [iblk, idx t]
/-- Operand 7 is taken whole at every grid point. -/
theorem blk7 : iblk m c 7 t = V m c main_v26 := by blk_ext! [iblk, idx t]
/-- Operand 8 is taken whole at every grid point. -/
theorem blk8 : iblk m c 8 t = V m c main_v34 := by blk_ext! [iblk, idx t]
/-- Operand 9 is taken whole at every grid point. -/
theorem blk9 : iblk m c 9 t = V m c main_v38 := by blk_ext! [iblk, idx t]
/-- Operand 10 is taken whole at every grid point. -/
theorem blk10 : iblk m c 10 t = V m c main_v36 := by blk_ext! [iblk, idx t]
/-- Operand 11 is taken whole at every grid point. -/
theorem blk11 : iblk m c 11 t = V m c main_v42 := by blk_ext! [iblk, idx t]
/-- Operand 12 is taken whole at every grid point. -/
theorem blk12 : iblk m c 12 t = V m c main_v14 := by blk_ext! [iblk, idx t]
/-- Operand 13 is taken whole at every grid point. -/
theorem blk13 : iblk m c 13 t = V m c main_v15 := by blk_ext! [iblk, idx t]
/-- Operand 14 is taken whole at every grid point. -/
theorem blk14 : iblk m c 14 t = V m c main_v16 := by blk_ext! [iblk, idx t]
/-- Operand 15 is taken whole at every grid point. -/
theorem blk15 : iblk m c 15 t = V m c main_arg13 := by blk_ext! [iblk, idx t]
/-- Operand 16 is taken whole at every grid point. -/
theorem blk16 : iblk m c 16 t = V m c main_arg14 := by blk_ext! [iblk, idx t]
/-- Operand 17 is taken whole at every grid point. -/
theorem blk17 : iblk m c 17 t = V m c main_arg15 := by blk_ext! [iblk, idx t]
/-- Operand 18 is taken whole at every grid point. -/
theorem blk18 : iblk m c 18 t = V m c main_arg16 := by blk_ext! [iblk, idx t]
/-- Operand 19 is taken whole at every grid point. -/
theorem blk19 : iblk m c 19 t = V m c main_arg17 := by blk_ext! [iblk, idx t]
/-- Operand 20 is taken whole at every grid point. -/
theorem blk20 : iblk m c 20 t = V m c main_arg18 := by blk_ext! [iblk, idx t]

end Cert.Blocks

end
-- ==== Proof.KernelValue.lean ====
/- The kernel's result over its arguments, at every index. -/
module

public import proofs.«01_k».proof.Proof.Blocks

@[expose] public section

set_option maxRecDepth 16384

noncomputable section

namespace Cert.Blocks

open Cert.KernelIdeal Cert.KernelIdeal.Gen Idealize.ShloMosaic Idealize.ShloMosaic.TcCoe Idealize.SL.Sem
open Idealize.ShloMosaic.Pipeline (Dat)
open Cert.Prefix Cert.Payload Cert.Point

variable (m : (ℓ : Loc nD τ sig) → Buf (Elt Ideal) ℓ) (c : Dev nD) (t : Fin cfg0.N)

/-- At every grid point the operands of the edge stage hold what that stage expects. -/
theorem edgeBlocks : EdgeBlocks (data m c) (graph t) (iblk m c 0 t) (iblk m c 1 t) (iblk m c 2 t) (iblk m c 3 t)
    (iblk m c 4 t) (iblk m c 5 t) (iblk m c 6 t) (iblk m c 7 t) (iblk m c 8 t) where
  h0 := blk0 m c t
  h1 b q s d := (blk1 m c t b q (wide s d)).trans (v43_at m c (graph t b) q s d)
  h2 d s k := (congrFun (blk2 m c t) _).trans (v21_at m c d s k)
  h3 s k := (congrFun (blk3 m c t) _).trans (v24_at m c s k)
  h4 d s k := (congrFun (blk4 m c t) _).trans (v22_at m c d s k)
  h5 d s' s k := (congrFun (blk5 m c t) _).trans (v23_at m c d s' s k)
  h6 s s' k k' := (congrFun (blk6 m c t) _).trans (v25_at m c s s' k k')
  h7 s k := (congrFun (blk7 m c t) _).trans (v26_at m c s k)
  h8 s s' k k' := (congrFun (blk8 m c t) _).trans (v34_at m c s s' k k')

/-- At every grid point the operands of the node stage hold what that stage expects. -/
theorem nodeBlocks : NodeBlocks (data m c) (iblk m c 9 t) (iblk m c 10 t) (iblk m c 11 t) (iblk m c 12 t) (iblk m c 13 t)
    (iblk m c 14 t) (iblk m c 15 t) (iblk m c 16 t) (iblk m c 17 t) (iblk m c 18 t) (iblk m c 19 t) (iblk m c 20 t) where
  h9 s k o := (congrFun (blk9 m c t) _).trans (v38_at m c s k o)
  h10 d o := (congrFun (blk10 m c t) _).trans (v36_at m c d o)
  h11 o := (congrFun (blk11 m c t) _).trans (v42_at m c o)
  h12 k k' := (congrFun (blk12 m c t) _).trans (v14_at m c k k')
  h13 k := (congrFun (blk13 m c t) _).trans (v15_at m c k)
  h14 k l := (congrFun (blk14 m c t) _).trans (v16_at m c k l)
  h15 k := (congrFun (blk15 m c t) _).trans (congrFun (V_main_arg13 m c) _)
  h16 k := (congrFun (blk16 m c t) _).trans (congrFun (V_main_arg14 m c) _)
  h17 k d := (congrFun (blk17 m c t) _).trans (congrFun (V_main_arg15 m c) _)
  h18 d := (congrFun (blk18 m c t) _).trans (congrFun (V_main_arg16 m c) _)
  h19 d o := (congrFun (blk19 m c t) _).trans (congrFun (V_main_arg17 m c) _)
  h20 o := (congrFun (blk20 m c t) _).trans (congrFun (V_main_arg18 m c) _)

/-- The kernel's result at every index, in the kernel's form of the network. -/
theorem result : (dats m 0 c).arrAt 21 cfg0.N = fun y => (data m c).out (data m c).knact (y 0) (y 1) := by
  refine (dats m 0 c).arrAt_eq_of_covers 21 _ (by decide +kernel) fun t _ y => ?_
  blk_simp
  rw [after0_21]
  frame_out
  change S128x16.Idx at y
  idx_vars y
  refine (out_at (edgeBlocks m c t) (nodeBlocks m c t) _ _).trans (congrArg₂ _ (Fin.ext ?_) (Fin.ext ?_))
  · show t.val * 128 + y0.val = _
    blk_simp [idx t]
  · blk_simp [idx t]

end Cert.Blocks

end
-- ==== Proof.RefIndex.lean ====
/- The reference's edge list: the receiver and sender nodes of every edge as words, the rows gathered at them, and the rows
   a sum by receiver collects. -/
module

public import proofs.«01_k».proof.Proof.Gen.ReferenceIdeal.Run
public import Idealize.ShloMosaic.Lib.Affine
public import Idealize.ShloMosaic.Lib.WordCmp
public import Idealize.ShloMosaic.Lib.StableHlo.Predicate
public import Idealize.ShloMosaic.Lib.Pointwise
public import Idealize.ShloMosaic.Lib.Routing.Ops
public import Idealize.ShloMosaic.Lib.Routing.OpsPair

@[expose] public section

set_option maxRecDepth 16384

noncomputable section

namespace Cert.RefIndex

open Cert.ReferenceIdeal Cert.ReferenceIdeal.Gen Cert.ReferenceIdeal.Value Idealize.ShloMosaic Idealize.ShloMosaic.StableHlo
open Idealize.ShloMosaic.Routing

/-! ## Words -/

/-- The remainder of two small words. -/
theorem rem_word {a k : ℕ} (ha : a < 2 ^ 31) (hk : 0 < k) (hk' : k < 2 ^ 31) :
    IntOp.remsi .host (BitVec.ofNat 32 a) (BitVec.ofNat 32 k) = BitVec.ofNat 32 (a % k) := by
  have e : (BitVec.ofNat 32 a).toNat = a := WordCmp.toNat_ofNat_of_lt (by omega)
  have l : a % k < 2 ^ 31 := lt_of_le_of_lt (Nat.mod_le a k) ha
  apply BitVec.eq_of_toNat_eq
  rw [IntOp.toNat_remsi .host (by rw [e]; omega) k hk (by omega), e, WordCmp.toNat_ofNat_of_lt (by omega)]

/-- The quotient of two small words. -/
theorem div_word {a k : ℕ} (ha : a < 2 ^ 31) (hk : 0 < k) (hk' : k < 2 ^ 31) :
    IntOp.divsi .host (BitVec.ofNat 32 a) (BitVec.ofNat 32 k) = BitVec.ofNat 32 (a / k) := by
  have e : (BitVec.ofNat 32 a).toNat = a := WordCmp.toNat_ofNat_of_lt (by omega)
  have ek : (BitVec.ofNat 32 k).toNat = k := WordCmp.toNat_ofNat_of_lt (by omega)
  have l : a / k < 2 ^ 31 := lt_of_le_of_lt (Nat.div_le_self a k) ha
  have hm : (BitVec.ofNat 32 a).msb = false := by rw [BitVec.msb_eq_false_iff_two_mul_lt, e]; omega
  have hkm : (BitVec.ofNat 32 k).msb = false := by rw [BitVec.msb_eq_false_iff_two_mul_lt, ek]; omega
  have hc : ¬IntOp.SDivCorner (BitVec.ofNat 32 a) (BitVec.ofNat 32 k) :=
    IntOp.not_corner_of_pos (by rw [WordCmp.toInt_ofNat_of_lt (by omega)]; omega)
  apply BitVec.eq_of_toNat_eq
  rw [IntOp.divsi, if_neg hc, BitVec.sdiv_eq, hm, hkm]
  show (BitVec.ofNat 32 a / BitVec.ofNat 32 k).toNat = _
  rw [BitVec.toNat_udiv, e, ek, WordCmp.toNat_ofNat_of_lt (by omega)]

/-- The sign of a word. -/
def sign (x : BitVec 32) : BitVec 32 := if x = 0 then 0 else if x.msb then -1 else 1

/-- The sign of a small nonzero word. -/
theorem sign_word {a : ℕ} (h0 : 0 < a) (ha : a < 2 ^ 31) : sign (BitVec.ofNat 32 a) = 1 := by
  have e : (BitVec.ofNat 32 a).toNat = a := WordCmp.toNat_ofNat_of_lt (by omega)
  have hm : (BitVec.ofNat 32 a).msb = false := by rw [BitVec.msb_eq_false_iff_two_mul_lt, e]; omega
  have hz : BitVec.ofNat 32 a ≠ 0 := fun h => by
    have := congrArg BitVec.toNat h
    rw [e] at this
    exact absurd this (by simpa using h0.ne')
  rw [sign, if_neg hz, hm]
  rfl

/-- Floor division of small words, as array programs spell it. -/
theorem floorDiv_word {a k : ℕ} (ha : a < 2 ^ 31) (hk : 0 < k) (hk' : k < 2 ^ 31) :
    Scalar.select
        (IntOp.andi (IntOp.cmpi .ne (sign (BitVec.ofNat 32 a)) (sign (BitVec.ofNat 32 k)))
          (IntOp.cmpi .ne (IntOp.remsi .host (BitVec.ofNat 32 a) (BitVec.ofNat 32 k)) 0#32))
        (IntOp.subi (IntOp.divsi .host (BitVec.ofNat 32 a) (BitVec.ofNat 32 k)) 1#32)
        (IntOp.divsi .host (BitVec.ofNat 32 a) (BitVec.ofNat 32 k))
      = BitVec.ofNat 32 (a / k) := by
  rw [div_word ha hk hk', rem_word ha hk hk', Scalar.select, if_neg]
  intro h
  rcases Nat.eq_zero_or_pos a with rfl | h0
  · rw [Nat.zero_mod] at h
    exact absurd (IntOp.andi_eq_one.1 h).2 (by decide)
  · rw [sign_word h0 ha, sign_word hk hk'] at h
    exact absurd (IntOp.andi_eq_one.1 h).1 (by decide)

/-- A small word is not negative. -/
theorem not_neg {a : ℕ} (ha : a < 2 ^ 31) : IntOp.cmpi .slt (BitVec.ofNat 32 a) 0#32 = 0#1 := by
  have h : ¬IntOp.cmpi .slt (BitVec.ofNat 32 a) 0#32 = 1#1 := fun h => by
    rw [WordCmp.cmpi_slt_zero, WordCmp.toNat_ofNat_of_lt (by omega)] at h
    have := of_decide_eq_true ((Predicate.ofBool_eq_one_iff _).1 h)
    omega
  revert h
  generalize IntOp.cmpi .slt (BitVec.ofNat 32 a) 0#32 = b
  revert b
  decide

/-- Floor remainder of small words, as array programs spell it. -/
theorem floorMod_word {a k : ℕ} (ha : a < 2 ^ 31) (hk : 0 < k) (hk' : k < 2 ^ 31) :
    Scalar.select
        (IntOp.andi
          (IntOp.cmpi .ne (IntOp.cmpi .slt (IntOp.remsi .host (BitVec.ofNat 32 a) (BitVec.ofNat 32 k)) 0#32)
            (IntOp.cmpi .slt (BitVec.ofNat 32 k) 0#32))
          (IntOp.cmpi .ne (IntOp.remsi .host (BitVec.ofNat 32 a) (BitVec.ofNat 32 k)) 0#32))
        (IntOp.addi (IntOp.remsi .host (BitVec.ofNat 32 a) (BitVec.ofNat 32 k)) (BitVec.ofNat 32 k))
        (IntOp.remsi .host (BitVec.ofNat 32 a) (BitVec.ofNat 32 k))
      = BitVec.ofNat 32 (a % k) := by
  rw [rem_word ha hk hk', not_neg (lt_of_le_of_lt (Nat.mod_le a k) ha), not_neg hk', Scalar.select, if_neg]
  intro h
  exact absurd (IntOp.andi_eq_one.1 h).1 (by decide)

/-! ## The edge list -/

/-- The edge of graph `b` from node `i` to its neighbour number `k`. -/
def edge (b : Fin 512) (i : Fin 32) (k : Fin 31) : Fin 507904 := ⟨(b.val * 32 + i.val) * 31 + k.val, by omega⟩

/-- Node `i` of graph `b` among all the nodes. -/
def vert (b : Fin 512) (i : Fin 32) : Fin 16384 := ⟨b.val * 32 + i.val, by omega⟩

variable (V0 : Valuation τ sig (Elt Ideal))

/-- The receiver of edge `e`. -/
theorem v2_at (e : Fin 507904) : (res_main_v2 V0 : IVec S507904 32) (ix1 e) = BitVec.ofNat 32 (e.val / 31) :=
  floorDiv_word (a := e.val) (k := 31) (by omega) (by omega) (by omega)

/-- The neighbour number of edge `e`. -/
theorem v3_at (e : Fin 507904) : (res_main_v3 V0 : IVec S507904 32) (ix1 e) = BitVec.ofNat 32 (e.val % 31) :=
  floorMod_word (a := e.val) (k := 31) (by omega) (by omega) (by omega)

/-- The receiver of edge `e` within its graph. -/
theorem v4_at (e : Fin 507904) : (res_main_v4 V0 : IVec S507904 32) (ix1 e) = BitVec.ofNat 32 (e.val / 31 % 32) := by
  have h := floorMod_word (a := e.val / 31) (k := 32) (by omega) (by omega) (by omega)
  rw [← v2_at V0 e] at h
  exact h

/-- The receiver of the edge from node `i` to its neighbour number `k`. -/
theorem row_at (b : Fin 512) (i : Fin 32) (k : Fin 31) :
    (res_main_v2 V0 : IVec S507904 32) (ix1 (edge b i k)) = BitVec.ofNat 32 (vert b i).val := by
  rw [v2_at]
  congr 1
  show ((b.val * 32 + i.val) * 31 + k.val) / 31 = b.val * 32 + i.val
  omega

/-- The sender of that edge: the neighbours of a node are all the others, in order. -/
theorem col_at (b : Fin 512) (i : Fin 32) (k : Fin 31) :
    (res_main_v10 V0 : IVec S507904 32) (ix1 (edge b i k)) = BitVec.ofNat 32 (vert b (i.succAbove k)).val := by
  have e2 := row_at V0 b i k
  have e3 : (res_main_v3 V0 : IVec S507904 32) (ix1 (edge b i k)) = BitVec.ofNat 32 k.val := by
    rw [v3_at]
    congr 1
    show ((b.val * 32 + i.val) * 31 + k.val) % 31 = k.val
    omega
  have e4 : (res_main_v4 V0 : IVec S507904 32) (ix1 (edge b i k)) = BitVec.ofNat 32 i.val := by
    rw [v4_at]
    congr 1
    show ((b.val * 32 + i.val) * 31 + k.val) / 31 % 32 = i.val
    omega
  show IntOp.addi (IntOp.addi (IntOp.subi ((res_main_v2 V0 : IVec S507904 32) (ix1 (edge b i k)))
      ((res_main_v4 V0 : IVec S507904 32) (ix1 (edge b i k)))) ((res_main_v3 V0 : IVec S507904 32) (ix1 (edge b i k))))
      (Scalar.select (IntOp.cmpi .sge ((res_main_v3 V0 : IVec S507904 32) (ix1 (edge b i k)))
          ((res_main_v4 V0 : IVec S507904 32) (ix1 (edge b i k)))) 1#32 0#32) = _
  rw [e2, e3, e4]
  have hs : Scalar.select (IntOp.cmpi .sge (BitVec.ofNat 32 k.val) (BitVec.ofNat 32 i.val)) 1#32 0#32
      = BitVec.ofNat 32 (if i.val ≤ k.val then 1 else 0) := by
    rw [Scalar.select]
    have h : (IntOp.cmpi .sge (BitVec.ofNat 32 k.val) (BitVec.ofNat 32 i.val) = 1) ↔ i.val ≤ k.val := by
      have := Predicate.sge_iff_toNat (a := BitVec.ofNat 32 k.val) (b := BitVec.ofNat 32 i.val)
        (by rw [WordCmp.toNat_ofNat_of_lt (by omega)]; omega) (by rw [WordCmp.toNat_ofNat_of_lt (by omega)]; omega)
      rw [WordCmp.toNat_ofNat_of_lt (by omega), WordCmp.toNat_ofNat_of_lt (by omega)] at this
      exact this
    by_cases hki : i.val ≤ k.val
    · rw [if_pos (h.2 hki), if_pos hki]
    · rw [if_neg (fun q => hki (h.1 q)), if_neg hki]
  rw [hs]
  have hv : (i.succAbove k).val = k.val + (if i.val ≤ k.val then 1 else 0) := by
    by_cases hki : i.val ≤ k.val
    · rw [if_pos hki, Fin.succAbove_of_le_castSucc _ _ (by rw [Fin.le_def]; exact hki)]
      rfl
    · rw [if_neg hki, Fin.succAbove_of_castSucc_lt _ _ (by rw [Fin.lt_def]; exact Nat.lt_of_not_le hki)]
      rfl
  apply BitVec.eq_of_toNat_eq
  have hi : ∀ t : ℕ, t < 2 → (BitVec.ofNat 32 (b.val * 32 + i.val) - BitVec.ofNat 32 i.val + BitVec.ofNat 32 k.val
      + BitVec.ofNat 32 t).toNat = (BitVec.ofNat 32 (b.val * 32 + (k.val + t))).toNat := fun t ht => by
    simp only [BitVec.toNat_add, BitVec.toNat_sub, BitVec.toNat_ofNat]
    omega
  show (BitVec.ofNat 32 (b.val * 32 + i.val) - BitVec.ofNat 32 i.val + BitVec.ofNat 32 k.val
      + BitVec.ofNat 32 (if i.val ≤ k.val then 1 else 0)).toNat = (BitVec.ofNat 32 (b.val * 32 + (i.succAbove k).val)).toNat
  rw [hv]
  exact hi _ (by split <;> omega)

/-- The word of a node, after the wrap of negative indices, is that word. -/
theorem wrap_vert (b : Fin 512) (i : Fin 32) (x a : BitVec 32) (hx : x = BitVec.ofNat 32 (vert b i).val) :
    Scalar.select (IntOp.cmpi .slt x 0#32) a x = BitVec.ofNat 32 (vert b i).val := by
  rw [wrap_of_lt x a (by rw [hx, WordCmp.toNat_ofNat_of_lt (by omega)]; have := (vert b i).isLt; omega), hx]

/-! ## Sums by receiver -/

/-- An update row lands in the row its index word names, lane by lane. -/
theorem rows_land (e : Fin 507904) (q : Fin 64) (idx : IVec S507904x1 32) (r : Fin 16384) (c : Fin 64) :
    scatter_S16384x64_S507904x1_S507904x64_1_0_0_1.resultIdx? (ix2 e q) idx = some (ix2 r c)
      ↔ (idx (ix2 e (0 : Fin 1))).toInt = r.val ∧ q = c := by
  refine (resultIdx?_ix2 (R := 16384) (C := 64) scatter_S16384x64_S507904x1_S507904x64_1_0_0_1 (ix2 e q) idx r c).trans ?_
  have s0 : scatter_S16384x64_S507904x1_S507904x64_1_0_0_1.start (ix2 e q) idx 0 = (idx (ix2 e (0 : Fin 1))).toInt := by
    unfold ScatterDims.start
    rw [dif_pos (by decide)]
    refine congrArg (fun z => (idx z).toInt) (funext fun a => ?_)
    match a with
    | ⟨0, _⟩ => rfl
    | ⟨1, _⟩ => rfl
  have s1 : scatter_S16384x64_S507904x1_S507904x64_1_0_0_1.start (ix2 e q) idx 1 = 0 := by
    unfold ScatterDims.start
    rw [dif_neg (by decide)]
  have w0 : scatter_S16384x64_S507904x1_S507904x64_1_0_0_1.window (ix2 e q) 0 = 0 := by
    unfold ScatterDims.window
    rw [dif_neg (by decide)]
  have w1 : scatter_S16384x64_S507904x1_S507904x64_1_0_0_1.window (ix2 e q) 1 = q.val := by
    unfold ScatterDims.window
    rw [dif_pos (by decide)]
    rfl
  rw [s0, s1, w0, w1, Fin.ext_iff]
  omega

/-- A sum over the edges, node by node. -/
theorem sum_edges (f : Fin 507904 → EReal) : ∑ e, f e = ∑ b, ∑ i, ∑ k, f (edge b i k) := by
  have h : ∀ x : Fin 16384, ∑ k : Fin 31, f ⟨x.val * 31 + k.val, by omega⟩ = ∑ k : Fin 31, f (finProdFinEquiv (m := 16384) (n := 31) (x, k)) :=
    fun x => Finset.sum_congr rfl fun k _ => congrArg f (Fin.ext (by show x.val * 31 + k.val = k.val + 31 * x.val; omega))
  have h' : ∀ g : Fin 16384 → EReal, ∑ x, g x = ∑ b, ∑ i, g (vert b i) := fun g => by
    rw [← Finset.sum_product', Finset.univ_product_univ]
    refine Eq.trans (Equiv.sum_comp (finProdFinEquiv (m := 512) (n := 32)) g).symm
      (Finset.sum_congr rfl fun x _ => congrArg g (Fin.ext ?_))
    show x.2.val + 32 * x.1.val = x.1.val * 32 + x.2.val
    omega
  have e := (Equiv.sum_comp (finProdFinEquiv (m := 16384) (n := 31)) f).symm
  rw [Fintype.sum_prod_type] at e
  refine e.trans ?_
  rw [Finset.sum_congr rfl fun x _ => (h x).symm, h']
  rfl

/-- Every other node of a graph is a neighbour exactly once. -/
theorem sum_neighbours (i : Fin 32) (f : Fin 32 → EReal) : ∑ k : Fin 31, f (i.succAbove k) = ∑ j ∈ Finset.univ.erase i, f j := by
  rw [← Finset.sum_image (s := Finset.univ) (g := i.succAbove) (f := f) (fun a _ b _ h => Fin.succAbove_right_injective h),
    Fin.image_succAbove_univ]
  congr 1
  ext j
  simp

/-- The rows scattered and added by receiver: node by node the sum over the edges it receives. -/
theorem scatter_at (z : FVec Ideal S16384x64 .f32) (idx : IVec S507904x1 32) (upd : FVec Ideal S507904x64 .f32)
    (hidx : ∀ b i k, idx (ix2 (edge b i k) (0 : Fin 1)) = BitVec.ofNat 32 (vert b i).val) (b : Fin 512) (i : Fin 32) (c : Fin 64) :
    Host.scatterAdd (F := Ideal) scatter_S16384x64_S507904x1_S507904x64_1_0_0_1 z idx upd (ix2 (vert b i) c)
      = ((z (ix2 (vert b i) c) : EReal) + ∑ k : Fin 31, (upd (ix2 (edge b i k) c) : EReal) : EReal) := by
  show (z (ix2 (vert b i) c) : EReal) + ∑ j ∈ Finset.univ.filter (fun j =>
    scatter_S16384x64_S507904x1_S507904x64_1_0_0_1.resultIdx? j idx = some (ix2 (vert b i) c)), (upd j : EReal) = _
  refine congrArg (fun s : EReal => (z (ix2 (vert b i) c) : EReal) + s) ?_
  have step : ∀ (b' : Fin 512) (i' : Fin 32) (k : Fin 31) (q : Fin 64),
      (if scatter_S16384x64_S507904x1_S507904x64_1_0_0_1.resultIdx? (ix2 (edge b' i' k) q) idx = some (ix2 (vert b i) c)
        then (upd (ix2 (edge b' i' k) q) : EReal) else 0)
        = if b' = b then (if i' = i then (if q = c then (upd (ix2 (edge b' i' k) q) : EReal) else 0) else 0) else 0 := fun b' i' k q => by
    have hv : ((idx (ix2 (edge b' i' k) (0 : Fin 1))).toInt = ((vert b i).val : Int)) ↔ b' = b ∧ i' = i := by
      rw [hidx, WordCmp.toInt_ofNat_of_lt (by have := (vert b' i').isLt; omega), Fin.ext_iff, Fin.ext_iff]
      show (((b'.val * 32 + i'.val : ℕ) : Int) = ((b.val * 32 + i.val : ℕ) : Int)) ↔ _
      omega
    rw [if_congr ((rows_land _ _ _ _ _).trans (and_congr hv Iff.rfl)) rfl rfl]
    by_cases hb : b' = b <;> by_cases hi : i' = i <;> by_cases hq : q = c <;> simp [hb, hi, hq]
  rw [Finset.sum_filter]
  refine (Idealize.ShloMosaic.sum_idx2 (n0 := 507904) (n1 := 64) _).trans ?_
  rw [sum_edges]
  refine (Finset.sum_congr rfl fun b' _ => Finset.sum_congr rfl fun i' _ => Finset.sum_congr rfl fun k _ =>
    Finset.sum_congr rfl fun q _ => step b' i' k q).trans ?_
  simp only [Finset.sum_ite_eq', Finset.mem_univ, if_true, Finset.sum_ite_irrel, Finset.sum_const_zero]

end Cert.RefIndex

end
-- ==== Proof.RefStages.lean ====
/- The reference's stages, each at an index, as the network's. -/
module

public import proofs.«01_k».proof.Proof.RefIndex
public import proofs.«01_k».proof.Proof.Net

@[expose] public section

set_option maxRecDepth 16384

noncomputable section

namespace Cert.RefStages

open Cert.ReferenceIdeal Cert.ReferenceIdeal.Gen Cert.ReferenceIdeal.Value Idealize.ShloMosaic Idealize.ShloMosaic.StableHlo
open Cert.RefIndex Cert.Net

variable (V0 : Valuation τ sig (Elt Ideal))

/-- The arguments as the network's data. -/
def data : Net.Data where
  S := fun i j k => V0 (Proc.devRef .tc main_arg0) (ix3 i j k)
  W1 := fun i j => V0 (Proc.devRef .tc main_arg1) (ix2 i j)
  b1 := fun i => V0 (Proc.devRef .tc main_arg2) (ix1 i)
  W2 := fun i j => V0 (Proc.devRef .tc main_arg3) (ix2 i j)
  b2 := fun i => V0 (Proc.devRef .tc main_arg4) (ix1 i)
  γ := fun i => V0 (Proc.devRef .tc main_arg5) (ix1 i)
  β := fun i => V0 (Proc.devRef .tc main_arg6) (ix1 i)
  W3 := fun i j => V0 (Proc.devRef .tc main_arg7) (ix2 i j)
  b3 := fun i => V0 (Proc.devRef .tc main_arg8) (ix1 i)
  N1 := fun i j => V0 (Proc.devRef .tc main_arg9) (ix2 i j)
  n1 := fun i => V0 (Proc.devRef .tc main_arg10) (ix1 i)
  N2 := fun i j => V0 (Proc.devRef .tc main_arg11) (ix2 i j)
  n2 := fun i => V0 (Proc.devRef .tc main_arg12) (ix1 i)
  g := fun i => V0 (Proc.devRef .tc main_arg13) (ix1 i)
  h := fun i => V0 (Proc.devRef .tc main_arg14) (ix1 i)
  N3 := fun i j => V0 (Proc.devRef .tc main_arg15) (ix2 i j)
  n3 := fun i => V0 (Proc.devRef .tc main_arg16) (ix1 i)
  M := fun i j => V0 (Proc.devRef .tc main_arg17) (ix2 i j)
  μ := fun i => V0 (Proc.devRef .tc main_arg18) (ix1 i)

/-- The flattened slots. -/
theorem v0_at (b : Fin 512) (i : Fin 32) (d : Fin 128) :
    (res_main_v0 V0 (ix2 (vert b i) d) : EReal) = (data V0).S b i d := by
  pointwise [res_main_v0, vert]
  rfl

/-- A slot row gathered at a node. -/
theorem gather_at (idx : IVec S507904x1 32) (e : Fin 507904) (b : Fin 512) (i : Fin 32) (d : Fin 128)
    (h : idx (ix2 e (0 : Fin 1)) = BitVec.ofNat 32 (vert b i).val) :
    (Host.gather gather_S16384x128_S507904x1_S507904x128_1_0_n_n_0_1_1128 (res_main_v0 V0) idx (ix2 e d) : EReal)
      = (data V0).S b i d := by
  refine (Routing.gather_row gather_S16384x128_S507904x1_S507904x128_1_0_n_n_0_1_1128 rfl rfl rfl rfl rfl
    (res_main_v0 V0) idx e d (vert b i) h (by omega)).trans ?_
  exact v0_at V0 b i d

/-- An index column, negative indices wrapped. -/
def wrapped (w : IVec S507904 32) : IVec S507904x1 32 :=
  broadcastInDim S507904x1 ![0] bcast_S507904_S507904x1_0
    (select (cmpi .slt w (broadcastInDim S507904 ![] bcast_S_S507904 (constantI S_ 32 0#32)))
      (addi w (broadcastInDim S507904 ![] bcast_S_S507904 (constantI S_ 32 16384#32))) w)

/-- A node's word is left as it is by the wrap. -/
theorem wrapped_at (w : IVec S507904 32) (e : Fin 507904) (b : Fin 512) (i : Fin 32) (h : w (ix1 e) = BitVec.ofNat 32 (vert b i).val) :
    wrapped w (ix2 e (0 : Fin 1)) = BitVec.ofNat 32 (vert b i).val := by
  pointwise [wrapped]
  exact wrap_vert b i _ _ h

/-- The slot gathered for the receiver of an edge. -/
theorem recv_at (b : Fin 512) (i : Fin 32) (k : Fin 31) (d : Fin 128) :
    (Host.gather gather_S16384x128_S507904x1_S507904x128_1_0_n_n_0_1_1128 (res_main_v0 V0) (wrapped (res_main_v2 V0))
      (ix2 (edge b i k) d) : EReal) = (data V0).S b i d :=
  gather_at V0 _ _ b i d (wrapped_at _ _ b i (row_at V0 b i k))

/-- The slot gathered for the sender of an edge. -/
theorem send_at (b : Fin 512) (i : Fin 32) (k : Fin 31) (d : Fin 128) :
    (Host.gather gather_S16384x128_S507904x1_S507904x128_1_0_n_n_0_1_1128 (res_main_v0 V0) (wrapped (res_main_v10 V0))
      (ix2 (edge b i k) d) : EReal) = (data V0).S b (i.succAbove k) d :=
  gather_at V0 _ _ b (i.succAbove k) d (wrapped_at _ _ b (i.succAbove k) (col_at V0 b i k))

/-- The hidden edge layer after its second matrix, at the edge of a node and a neighbour. -/
theorem v34_at (b : Fin 512) (i : Fin 32) (k : Fin 31) (o : Fin 64) :
    (res_main_v34 V0 (ix2 (edge b i k) o) : EReal) = (data V0).pre b i (i.succAbove k) o := by
  pointwise [res_main_v34]
  refine congrArg (fun z : EReal => z + (data V0).b2 o) (Finset.sum_congr rfl fun x _ =>
    congrArg (fun z : EReal => max (z + (data V0).b1 x) 0 * (data V0).W2 x o)
      (congrArg₂ (fun y z : EReal => y + z) (Finset.sum_congr rfl fun d _ => ?_) (Finset.sum_congr rfl fun d _ => ?_)))
  · exact congrArg (fun z : EReal => z * (data V0).W1 (Net.up (by omega) d) x) (recv_at V0 b i k d)
  · exact congrArg (fun z : EReal => z * (data V0).W1 (Net.dn (by omega) d) x) (send_at V0 b i k d)

/-- Their mean. -/
theorem v38_at (b : Fin 512) (i : Fin 32) (k : Fin 31) (u : Fin 1) :
    (res_main_v38 V0 (ix2 (edge b i k) u) : EReal) = Norm.mean ((data V0).pre b i (i.succAbove k)) := by
  pointwise [res_main_v38]
  rw [lit_64]
  exact congrArg (fun z : EReal => Ideal.div z ((64 : ℝ) : EReal)) (Finset.sum_congr rfl fun o _ => v34_at V0 b i k o)

/-- Their deviation. -/
theorem v40_at (b : Fin 512) (i : Fin 32) (k : Fin 31) (o : Fin 64) :
    (res_main_v40 V0 (ix2 (edge b i k) o) : EReal) = Norm.dev ((data V0).pre b i (i.succAbove k)) o := by
  pointwise [res_main_v40]
  exact congrArg₂ (fun y z : EReal => y - z) (v34_at V0 b i k o) (v38_at V0 b i k 0)

/-- The node layer after its second matrix: the edges' features are added up by receiver first. -/
theorem v76_at (b : Fin 512) (i : Fin 32) (o : Fin 64) :
    (res_main_v76 V0 (ix2 (vert b i) o) : EReal) = (∑ p, (data V0).node b i p * (data V0).N2 p o) + (data V0).n2 o := by
  pointwise [res_main_v76]
  refine congrArg (fun z : EReal => z + (data V0).n2 o) (Finset.sum_congr rfl fun x _ =>
    congrArg (fun z : EReal => max (z + (data V0).n1 x) 0 * (data V0).N2 x o)
      (congrArg₂ (fun y z : EReal => y + z) (Finset.sum_congr rfl fun d _ => ?_) (Finset.sum_congr rfl fun l _ => ?_)))
  · exact congrArg (fun z : EReal => z * (data V0).N1 (Net.up (by omega) d) x) (v0_at V0 b i d)
  · refine congrArg (fun z : EReal => z * (data V0).N1 (Net.dn (by omega) l) x) ?_
    refine (scatter_at _ _ _ (fun b' i' k' => row_at V0 b' i' k') b i l).trans ?_
    pointwise []
    refine Eq.trans (Finset.sum_congr rfl fun k _ => ?_)
      (sum_neighbours i fun j => (∑ p, (data V0).act b i j p * (data V0).W3 p l) + (data V0).b3 l)
    refine congrArg (fun z : EReal => z + (data V0).b3 l) (Finset.sum_congr rfl fun p _ =>
      congrArg (fun z : EReal => max (z * (data V0).γ p + (data V0).β p) 0 * (data V0).W3 p l) ?_)
    have hd := v40_at V0 b i k
    rw [Finset.sum_congr rfl fun q _ => congrArg₂ (fun y z : EReal => y * z) (hd q) (hd q), lit_64]
    exact congrArg (fun z : EReal => Ideal.div z (Ideal.sqrt
      (Norm.mean (fun q => Norm.dev ((data V0).pre b i (i.succAbove k)) q * Norm.dev ((data V0).pre b i (i.succAbove k)) q) + eps)))
      (congrArg₂ (fun y z : EReal => y - z) (v34_at V0 b i k p) (v38_at V0 b i k 0))

/-- The node layer's mean. -/
theorem v80_at (b : Fin 512) (i : Fin 32) (u : Fin 1) :
    (res_main_v80 V0 (ix2 (vert b i) u) : EReal)
      = Norm.mean (fun o => (∑ p, (data V0).node b i p * (data V0).N2 p o) + (data V0).n2 o) := by
  pointwise [res_main_v80]
  rw [lit_64]
  exact congrArg (fun z : EReal => Ideal.div z ((64 : ℝ) : EReal)) (Finset.sum_congr rfl fun o _ => v76_at V0 b i o)

/-- The node layer's deviation. -/
theorem v82_at (b : Fin 512) (i : Fin 32) (o : Fin 64) :
    (res_main_v82 V0 (ix2 (vert b i) o) : EReal)
      = Norm.dev (fun o => (∑ p, (data V0).node b i p * (data V0).N2 p o) + (data V0).n2 o) o := by
  pointwise [res_main_v82]
  exact congrArg₂ (fun y z : EReal => y - z) (v76_at V0 b i o) (v80_at V0 b i 0)

/-- The reference's result: the network. -/
theorem result : val3 V0 (Proc.devRef .tc main_v112) = fun y => (data V0).out (data V0).nact (y 0) (y 1) := by
  rw [val3_main_v112]
  funext y
  idx_vars y
  pointwise []
  refine congrArg (fun z : EReal => z + (data V0).μ y1) (Finset.sum_congr rfl fun d _ =>
    congrArg (fun z : EReal => z * (data V0).M d y1) (Finset.sum_congr rfl fun i _ =>
      congrArg (fun z : EReal => max (z + (data V0).n3 d) 0) (Finset.sum_congr rfl fun p _ =>
        congrArg (fun z : EReal => max (z * (data V0).g p + (data V0).h p) 0 * (data V0).N3 p d) ?_)))
  have hd := v82_at V0 y0 i
  refine congrArg₂ Ideal.div (congrArg₂ (fun y z : EReal => y - z) (v76_at V0 y0 i p) (v80_at V0 y0 i 0))
    (congrArg Ideal.sqrt (congrArg (fun z : EReal => z + eps) ?_))
  rw [lit_64]
  exact congrArg (fun z : EReal => Ideal.div z ((64 : ℝ) : EReal))
    (Finset.sum_congr rfl fun q _ => congrArg₂ (fun y z : EReal => y * z) (hd q) (hd q))

end Cert.RefStages

end
-- ==== Proof.Precondition.lean ====
/- What the precondition says of the arguments. -/
module

public import proofs.«01_k».proof.Defs
public import proofs.«01_k».proof.Proof.Prefix
public import Idealize.ShloMosaic.Lib.ReduceAll
public import Idealize.ShloMosaic.Lib.StableHlo.Predicate

@[expose] public section

set_option maxRecDepth 16384

noncomputable section

namespace Cert.Precondition

open Idealize.ShloMosaic Idealize.ShloMosaic.StableHlo

/-- The shape relations the precondition's own operations take. -/
theorem facts : Cert.Pre_finite_and_graded.Facts :=
  ⟨by decide, by decide, by decide, by decide, by decide, by decide, by decide, by decide, by decide, by decide, by decide⟩

/-- The literal the precondition compares with is the top element. -/
theorem lit_top : Ideal.ofBits .f32 0x7F800000#32 = (⊤ : EReal) := by
  simp [Ideal.ofBits, Ideal.ieee]

/-- A number of absolute value below the top element is a real number. -/
theorem real_of_abs (x : EReal) (h : Ideal.cmp .olt (max x (-x)) (Ideal.ofBits .f32 0x7F800000#32) = 1#1) :
    ∃ r : ℝ, x = r := by
  rw [lit_top] at h
  have hl : max x (-x) < ⊤ := of_decide_eq_true ((Predicate.ofBool_eq_one_iff _).1 h)
  induction x using EReal.rec with
  | bot => simp at hl
  | coe r => exact ⟨r, rfl⟩
  | top => simp at hl

/-- A number that compares as different from zero. -/
theorem ne_of_cmp (x : EReal) (h : Ideal.cmp .une x (Ideal.ofBits .f32 0x00000000#32) = 1#1) : x ≠ 0 := by
  rw [Ideal.ofBits_zero_f32] at h
  exact of_decide_eq_true ((Predicate.ofBool_eq_one_iff _).1 h)

/-- A number that compares as zero. -/
theorem eq_of_cmp (x : EReal) (h : Ideal.cmp .oeq x (Ideal.ofBits .f32 0x00000000#32) = 1#1) : x = 0 := by
  rw [Ideal.ofBits_zero_f32] at h
  exact of_decide_eq_true ((Predicate.ofBool_eq_one_iff _).1 h)

/-- A scalar has one index. -/
instance : Subsingleton (Shape.Idx Cert.Pre_finite_and_graded.S_) := ⟨fun a b => funext fun i => i.elim0⟩

/-- The precondition makes the data what the kernel's algebra needs. -/
theorem fine (m : (ℓ : Loc Cert.KernelIdeal.nD Cert.KernelIdeal.τ Cert.KernelIdeal.sig) → Buf (Elt Ideal) ℓ)
    (h : Cert.Pre_KernelIdeal_finite_and_graded (hPre_finite_and_graded := facts) m) (c : Dev Cert.KernelIdeal.nD) :
    (Prefix.data m c).Fine := by
  have e := congrFun (h c) (fun i => i.elim0)
  unfold Cert.Pre_finite_and_graded.fn Cert.Pre_finite_and_graded.fn_part1 Cert.Pre_finite_and_graded.fn_part2 at e
  obtain ⟨e, hβ⟩ := IntOp.andi_eq_one.1 e
  obtain ⟨e, hγ0⟩ := IntOp.andi_eq_one.1 e
  obtain ⟨e, hn1⟩ := IntOp.andi_eq_one.1 e
  obtain ⟨e, hN1⟩ := IntOp.andi_eq_one.1 e
  obtain ⟨e, hb3⟩ := IntOp.andi_eq_one.1 e
  obtain ⟨e, hW3⟩ := IntOp.andi_eq_one.1 e
  obtain ⟨e, hγ⟩ := IntOp.andi_eq_one.1 e
  obtain ⟨e, hb1⟩ := IntOp.andi_eq_one.1 e
  obtain ⟨hS, hW1⟩ := IntOp.andi_eq_one.1 e
  exact {
    S := fun b i d => real_of_abs _ (Host.reduce_andi_all _ _ _ _ _ hS (ix3 b i d))
    W1 := fun d k => real_of_abs _ (Host.reduce_andi_all _ _ _ _ _ hW1 (ix2 d k))
    b1 := fun k => real_of_abs _ (Host.reduce_andi_all _ _ _ _ _ hb1 (ix1 k))
    γ := fun k => real_of_abs _ (Host.reduce_andi_all _ _ _ _ _ hγ (ix1 k))
    γ0 := fun k => ne_of_cmp _ (Host.reduce_andi_all _ _ _ _ _ hγ0 (ix1 k))
    β := fun k => eq_of_cmp _ (Host.reduce_andi_all _ _ _ _ _ hβ (ix1 k))
    W3 := fun k l => real_of_abs _ (Host.reduce_andi_all _ _ _ _ _ hW3 (ix2 k l))
    b3 := fun k => real_of_abs _ (Host.reduce_andi_all _ _ _ _ _ hb3 (ix1 k))
    N1 := fun d k => real_of_abs _ (Host.reduce_andi_all _ _ _ _ _ hN1 (ix2 d k))
    n1 := fun k => real_of_abs _ (Host.reduce_andi_all _ _ _ _ _ hn1 (ix1 k)) }

end Cert.Precondition

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefStages
public import proofs.«01_k».proof.Proof.Precondition
public import Idealize.ShloMosaic.Lib.Claim
public import Idealize.ShloMosaic.Adequacy
public import Idealize.ShloMosaic.Init

@[expose] public section

noncomputable section

namespace Cert.Proof

open Idealize.ShloMosaic Idealize.ShloMosaic.StableHlo Idealize.SL.Sem

/-- The reference runs to the end and leaves its arguments unchanged. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- On the same arguments the two programs read the same data. -/
theorem data_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : (RefStages.data V0).S = (Prefix.data m c).S) (h1 : (RefStages.data V0).W1 = (Prefix.data m c).W1)
    (h2 : (RefStages.data V0).b1 = (Prefix.data m c).b1) (h3 : (RefStages.data V0).W2 = (Prefix.data m c).W2)
    (h4 : (RefStages.data V0).b2 = (Prefix.data m c).b2) (h5 : (RefStages.data V0).γ = (Prefix.data m c).γ)
    (h6 : (RefStages.data V0).β = (Prefix.data m c).β) (h7 : (RefStages.data V0).W3 = (Prefix.data m c).W3)
    (h8 : (RefStages.data V0).b3 = (Prefix.data m c).b3) (h9 : (RefStages.data V0).N1 = (Prefix.data m c).N1)
    (h10 : (RefStages.data V0).n1 = (Prefix.data m c).n1) (h11 : (RefStages.data V0).N2 = (Prefix.data m c).N2)
    (h12 : (RefStages.data V0).n2 = (Prefix.data m c).n2) (h13 : (RefStages.data V0).g = (Prefix.data m c).g)
    (h14 : (RefStages.data V0).h = (Prefix.data m c).h) (h15 : (RefStages.data V0).N3 = (Prefix.data m c).N3)
    (h16 : (RefStages.data V0).n3 = (Prefix.data m c).n3) (h17 : (RefStages.data V0).M = (Prefix.data m c).M)
    (h18 : (RefStages.data V0).μ = (Prefix.data m c).μ) : RefStages.data V0 = Prefix.data m c := by
  revert h0 h1 h2 h3 h4 h5 h6 h7 h8 h9 h10 h11 h12 h13 h14 h15 h16 h17 h18
  generalize RefStages.data V0 = D
  generalize Prefix.data m c = D'
  intros
  cases D
  cases D'
  simp_all

/-- On arguments that meet the precondition the kernel's result is the reference's. -/
theorem algebraic : Cert.algebraic_KernelIdeal_ReferenceIdeal_pre_finite_and_graded (hKernelIdeal := Cert.KernelIdeal.Gen.facts)
    (hReferenceIdeal := Cert.ReferenceIdeal.Gen.facts) (hPre_finite_and_graded := Precondition.facts) := by
  intro m g m' g' hpre hagree
  have hd : ∀ c : Dev Cert.KernelIdeal.nD, RefStages.data (launchContents m' c) = Prefix.data m c := fun c => by
    obtain ⟨h0, h1, h2, h3, h4, h5, h6, h7, h8, h9, h10, h11, h12, h13, h14, h15, h16, h17, h18⟩ := hagree c
    exact data_eq m _ c (funext fun i => funext fun j => funext fun k => congrFun h0 (ix3 i j k))
      (funext fun i => funext fun j => congrFun h1 (ix2 i j)) (funext fun i => congrFun h2 (ix1 i))
      (funext fun i => funext fun j => congrFun h3 (ix2 i j)) (funext fun i => congrFun h4 (ix1 i))
      (funext fun i => congrFun h5 (ix1 i)) (funext fun i => congrFun h6 (ix1 i))
      (funext fun i => funext fun j => congrFun h7 (ix2 i j)) (funext fun i => congrFun h8 (ix1 i))
      (funext fun i => funext fun j => congrFun h9 (ix2 i j)) (funext fun i => congrFun h10 (ix1 i))
      (funext fun i => funext fun j => congrFun h11 (ix2 i j)) (funext fun i => congrFun h12 (ix1 i))
      (funext fun i => congrFun h13 (ix1 i)) (funext fun i => congrFun h14 (ix1 i))
      (funext fun i => funext fun j => congrFun h15 (ix2 i j)) (funext fun i => congrFun h16 (ix1 i))
      (funext fun i => funext fun j => congrFun h17 (ix2 i j)) (funext fun i => congrFun h18 (ix1 i))
  refine ⟨fun c => fun y => (Prefix.data m c).out (Prefix.data m c).nact (y 0) (y 1),
    (θ_run Cert.KernelIdeal.defs _ _).mono (fun r h c => ⟨(h c).1.trans ?_, (h c).2⟩)
      (Cert.KernelIdeal.Value.run_blocks (F := Ideal) m g),
    (θ_run Cert.ReferenceIdeal.defs _ _).mono (fun r h c => ⟨(h c).1.trans ?_, (h c).2⟩)
      (Cert.ReferenceIdeal.Value.run (F := Ideal) m' g')⟩
  · refine (Blocks.result m c).trans (funext fun y => ?_)
    exact Net.Data.out_eq (Precondition.fine m hpre c) (y 0) (y 1)
  · refine (Cert.ReferenceIdeal.Value.val3_main_v112 (launchContents m' c)).symm.trans ?_
    rw [RefStages.result, hd c]
    rfl

/-- Everything that is claimed. -/
theorem claim : Cert.Claim :=
  ⟨Cert.Kernel.Gen.facts, Cert.KernelIdeal.Gen.facts, Cert.ReferenceIdeal.Gen.facts, Precondition.facts,
    fun m g _ => Cert.Kernel.Gen.frame m g, fun m g _ => Cert.KernelIdeal.Gen.frame m g,
    fun m g _ => Cert.KernelIdeal.Gen.frame m g, reference_frame, fun m g _ => reference_frame m g trivial, trivial, algebraic⟩

end Cert.Proof

end
